-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![2048, 256]⟩ 0 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨2, ![512, 1]⟩ ⟨2, ![2048, 1]⟩ 0 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 256, 512]⟩ ⟨3, ![16, 256, 512]⟩ 0 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 512]⟩ ⟨2, ![2048, 512]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v28) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S_ : Shape := ⟨0, ![]⟩

class Facts : Prop where
  bcast_S_S512x256 : S_.BroadcastsInDim S512x256 (![] : Fin 0 → Fin S512x256.rank)
  bcast_S_S256x16 : S_.BroadcastsInDim S256x16 (![] : Fin 0 → Fin S256x16.rank)

variable [Facts]

def fn {F : FTy → Type} [FloatOps F] (main_arg0 : FVec F S512x256 .f32) (main_arg1 : FVec F S256x16 .f32) (main_arg2 : IVec S512x1 32) (main_arg3 : FVec F S4x256x512 .f32) (main_arg4 : FVec F S256x512 .f32) : IVec S512x256 1 × IVec S256x16 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Pre_finite_scores_ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S256x512 : Shape := ⟨2, ![256, 512]⟩
abbrev S_ : Shape := ⟨0, ![]⟩

class Facts : Prop where
  bcast_S_S2048x256 : S_.BroadcastsInDim S2048x256 (![] : Fin 0 → Fin S2048x256.rank)
  bcast_S_S256x16 : S_.BroadcastsInDim S256x16 (![] : Fin 0 → Fin S256x16.rank)

variable [Facts]

def fn {F : FTy → Type} [FloatOps F] (main_arg0 : FVec F S2048x256 .f32) (main_arg1 : FVec F S256x16 .f32) (main_arg2 : IVec S2048x1 32) (main_arg3 : FVec F S16x256x512 .f32) (main_arg4 : FVec F S256x512 .f32) : IVec S2048x256 1 × IVec S256x16 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_v3 : FVec F S256x16 .f32 := Host.absf main_arg1
  let main_cst_0 : FVec F S_ .f32 := constant S_ .f32 0x7F800000#32
  let main_v4 : FVec F S256x16 .f32 := broadcastInDim S256x16 ![] bcast_S_S256x16 main_cst_0
  let main_v5 : IVec S256x16 1 := cmpf .olt main_v3 main_v4
  (main_v2, main_v5)
-- ==== Kernel.lean ====
abbrev S512x256 : Shape := ⟨2, ![512, 256]⟩
abbrev S256x16 : Shape := ⟨2, ![256, 16]⟩
abbrev S512x1 : Shape := ⟨2, ![512, 1]⟩
abbrev S4x256x512 : Shape := ⟨3, ![4, 256, 512]⟩
abbrev S256x512 : Shape := ⟨2, ![256, 512]⟩
abbrev S512x512 : Shape := ⟨2, ![512, 512]⟩
abbrev S3x2x256x512 : Shape := ⟨4, ![3, 2, 256, 512]⟩
abbrev S3x2 : Shape := ⟨2, ![3, 2]⟩
abbrev S_ : Shape := ⟨0, ![]⟩
abbrev S1x256x512 : Shape := ⟨3, ![1, 256, 512]⟩
abbrev S1x1 : Shape := ⟨2, ![1, 1]⟩
abbrev S1x1x256x512 : Shape := ⟨4, ![1, 1, 256, 512]⟩
abbrev S512x16 : Shape := ⟨2, ![512, 16]⟩
abbrev S512 : Shape := ⟨1, ![512]⟩

abbrev nBuf : Space → Nat
  | .hbm => 6
  | .vmem => 9
  | .smem => 0
  | _ => 0

abbrev bufTy : (tb : Table) → Fin (tcTables nBuf tb) → BufTy
  | .hbm, ⟨0, _⟩ => ⟨S512x256, .f32⟩
  | .hbm, ⟨1, _⟩ => ⟨S256x16, .f32⟩
  | .hbm, ⟨2, _⟩ => ⟨S512x1, .i32⟩
  | .hbm, ⟨3, _⟩ => ⟨S4x256x512, .f32⟩
  | .hbm, ⟨4, _⟩ => ⟨S256x512, .f32⟩
  | .hbm, ⟨5, _⟩ => ⟨S512x512, .f32⟩
  | .local _ .vmem, ⟨0, _⟩ => ⟨S512x256, .f32⟩
  | .local _ .vmem, ⟨1, _⟩ => ⟨S256x16, .f32⟩
  | .local _ .vmem, ⟨2, _⟩ => ⟨S512x1, .i32⟩
  | .local _ .vmem, ⟨3, _⟩ => ⟨S4x256x512, .f32⟩
  | .local _ .vmem, ⟨4, _⟩ => ⟨S256x512, .f32⟩
  | .local _ .vmem, ⟨5, _⟩ => ⟨S512x512, .f32⟩
  | .local _ .vmem, ⟨6, _⟩ => ⟨S4x256x512, .bf16⟩
  | .local _ .vmem, ⟨7, _⟩ => ⟨S3x2x256x512, .bf16⟩
  | .local _ .vmem, ⟨8, _⟩ => ⟨S3x2x256x512, .bf16⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  (ofTc nBuf bufTy 1 30 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v36 : BitVec 32 := Scalar.muli v24 c1_i32_31
  let v37 : BitVec 32 := Scalar.addi c0_i32_32 v36
  v37.toNat
def k0_dev4 (d0 : Dev nD) : Nat :=
  let c0_i32_50 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_49 : BitVec 32 := 1#32
  let v52 : BitVec 32 := Scalar.muli v13 c1_i32_49
  let v53 : BitVec 32 := Scalar.addi c0_i32_50 v52
  v53.toNat
def k0_dev5 (d0 : Dev nD) : Nat :=
  let c0_i32_68 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_67 : BitVec 32 := 1#32
  let v68 : BitVec 32 := Scalar.muli v24 c1_i32_67
  let v69 : BitVec 32 := Scalar.addi c0_i32_68 v68
  v69.toNat
def k0_dev6 (d0 : Dev nD) : Nat :=
  let c0_i32_85 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_84 : BitVec 32 := 1#32
  let v84 : BitVec 32 := Scalar.muli v13 c1_i32_84
  let v85 : BitVec 32 := Scalar.addi c0_i32_85 v84
  v85.toNat
def k0_dev7 (d0 : Dev nD) : Nat :=
  let c0_i32_182 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_181 : BitVec 32 := 1#32
  let v218 : BitVec 32 := Scalar.muli v24 c1_i32_181
  let v219 : BitVec 32 := Scalar.addi c0_i32_182 v218
  v219.toNat
def k0_dev8 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_208 : BitVec 32 := 1#32
  let v236 : BitVec 32 := Scalar.muli v13 c1_i32_208
  let v237 : BitVec 32 := Scalar.addi c0_i32_209 v236
  v237.toNat
def k0_dev9 (d0 : Dev nD) : Nat :=
  let c0_i32_263 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_262 : BitVec 32 := 1#32
  let v291 : BitVec 32 := Scalar.muli v24 c1_i32_262
  let v292 : BitVec 32 := Scalar.addi c0_i32_263 v291
  v292.toNat
def k0_dev10 (d0 : Dev nD) : Nat :=
  let c0_i32_290 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_289 : BitVec 32 := 1#32
  let v309 : BitVec 32 := Scalar.muli v13 c1_i32_289
  let v310 : BitVec 32 := Scalar.addi c0_i32_290 v309
  v310.toNat
def k0_dev11 (d0 : Dev nD) : Nat :=
  let c0_i32_361 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_360 : BitVec 32 := 1#32
  let v388 : BitVec 32 := Scalar.muli v24 c1_i32_360
  let v389 : BitVec 32 := Scalar.addi c0_i32_361 v388
  v389.toNat
def k0_dev12 (d0 : Dev nD) : Nat :=
  let c0_i32_389 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_388 : BitVec 32 := 1#32
  let v406 : BitVec 32 := Scalar.muli v13 c1_i32_388
  let v407 : BitVec 32 := Scalar.addi c0_i32_389 v406
  v407.toNat
def k0_dev13 (d0 : Dev nD) : Nat :=
  let c0_i32_444 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_443 : BitVec 32 := 1#32
  let v461 : BitVec 32 := Scalar.muli v24 c1_i32_443
  let v462 : BitVec 32 := Scalar.addi c0_i32_444 v461
  v462.toNat
def k0_dev14 (d0 : Dev nD) : Nat :=
  let c0_i32_472 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_471 : BitVec 32 := 1#32
  let v479 : BitVec 32 := Scalar.muli v13 c1_i32_471
  let v480 : BitVec 32 := Scalar.addi c0_i32_472 v479
  v480.toNat
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2048x256 : Shape := ⟨2, ![2048, 256]⟩
abbrev S256x16 : Shape := ⟨2, ![256, 16]⟩
abbrev S2048x1 : Shape := ⟨2, ![2048, 1]⟩
abbrev S16x256x512 : Shape := ⟨3, ![16, 256, 512]⟩
abbrev S256x512 : Shape := ⟨2, ![256, 512]⟩
abbrev S2048x16 : Shape := ⟨2, ![2048, 16]⟩
abbrev S_ : Shape := ⟨0, ![]⟩
abbrev S2048 : Shape := ⟨1, ![2048]⟩
abbrev S2048x512 : Shape := ⟨2, ![2048, 512]⟩
abbrev S2048x1x1 : Shape := ⟨3, ![2048, 1, 1]⟩
abbrev S1 : Shape := ⟨1, ![1]⟩
abbrev S1x1x1 : Shape := ⟨3, ![1, 1, 1]⟩
abbrev S1x1 : Shape := ⟨2, ![1, 1]⟩
abbrev S2048x256x512 : Shape := ⟨3, ![2048, 256, 512]⟩

abbrev nBuf : Space → Nat
  | .hbm => 61
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x16, .f32⟩
  | .hbm, ⟨2, _⟩ => ⟨S2048x1, .i32⟩
  | .hbm, ⟨3, _⟩ => ⟨S16x256x512, .f32⟩
  | .hbm, ⟨4, _⟩ => ⟨S256x512, .f32⟩
  | .hbm, ⟨5, _⟩ => ⟨S2048x16, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S2048x16, .f32⟩
  | .hbm, ⟨10, _⟩ => ⟨S2048x16, .f32⟩
  | .hbm, ⟨11, _⟩ => ⟨S2048x16, .f32⟩
  | .hbm, ⟨12, _⟩ => ⟨S_, .f32⟩
  | .hbm, ⟨13, _⟩ => ⟨S2048, .f32⟩
  | .hbm, ⟨14, _⟩ => ⟨S2048x1, .f32⟩
  | .hbm, ⟨15, _⟩ => ⟨S2048x16, .f32⟩
  | .hbm, ⟨16, _⟩ => ⟨S2048x16, .f32⟩
  | .hbm, ⟨17, _⟩ => ⟨S2048x512, .f32⟩
  | .hbm, ⟨18, _⟩ => ⟨S2048, .i32⟩
  | .hbm, ⟨19, _⟩ => ⟨S_, .i32⟩
  | .hbm, ⟨20, _⟩ => ⟨S2048x1, .i32⟩
  | .hbm, ⟨21, _⟩ => ⟨S2048x1, .i1⟩
  | .hbm, ⟨22, _⟩ => ⟨S_, .i32⟩
  | .hbm, ⟨23, _⟩ => ⟨S2048x1, .i32⟩
  | .hbm, ⟨24, _⟩ => ⟨S2048x1, .i32⟩
  | .hbm, ⟨25, _⟩ => ⟨S2048x1, .i32⟩
  | .hbm, ⟨26, _⟩ => ⟨S2048x1x1, .i32⟩
  | .hbm, ⟨27, _⟩ => ⟨S1, .i32⟩
  | .hbm, ⟨28, _⟩ => ⟨S_, .i32⟩
  | .hbm, ⟨29, _⟩ => ⟨S2048x1x1, .i32⟩
  | .hbm, ⟨30, _⟩ => ⟨S2048x1x1, .i1⟩
  | .hbm, ⟨31, _⟩ => ⟨S1x1x1, .i32⟩
  | .hbm, ⟨32, _⟩ => ⟨S2048x1x1, .i32⟩
  | .hbm, ⟨33, _⟩ => ⟨S2048x1x1, .i1⟩
  | .hbm, ⟨34, _⟩ => ⟨S2048x1x1, .i1⟩
  | .hbm, ⟨35, _⟩ => ⟨S_, .i1⟩
  | .hbm, ⟨36, _⟩ => ⟨S2048x1, .i1⟩
  | .hbm, ⟨37, _⟩ => ⟨S2048x1, .f32⟩
  | .hbm, ⟨38, _⟩ => ⟨S_, .f32⟩
  | .hbm, ⟨39, _⟩ => ⟨S2048x1, .f32⟩
  | .hbm, ⟨40, _⟩ => ⟨S2048x1, .f32⟩
  | .hbm, ⟨41, _⟩ => ⟨S2048x1, .i32⟩
  | .hbm, ⟨42, _⟩ => ⟨S1, .i32⟩
  | .hbm, ⟨43, _⟩ => ⟨S_, .i32⟩
  | .hbm, ⟨44, _⟩ => ⟨S2048x1, .i32⟩
  | .hbm, ⟨45, _⟩ => ⟨S2048x1, .i1⟩
  | .hbm, ⟨46, _⟩ => ⟨S1x1, .i32⟩
  | .hbm, ⟨47, _⟩ => ⟨S2048x1, .i32⟩
  | .hbm, ⟨48, _⟩ => ⟨S2048x1, .i1⟩
  | .hbm, ⟨49, _⟩ => ⟨S2048x1, .i1⟩
  | .hbm, ⟨50, _⟩ => ⟨S_, .i1⟩
  | .hbm, ⟨51, _⟩ => ⟨S2048, .i1⟩
  | .hbm, ⟨52, _⟩ => ⟨S2048x256x512, .f32⟩
  | .hbm, ⟨53, _⟩ => ⟨S2048x256x512, .i1⟩
  | .hbm, ⟨54, _⟩ => ⟨S_, .f32⟩
  | .hbm, ⟨55, _⟩ => ⟨S2048x256x512, .f32⟩
  | .hbm, ⟨56, _⟩ => ⟨S2048x256x512, .f32⟩
  | .hbm, ⟨57, _⟩ => ⟨S2048x512, .f32⟩
  | .hbm, ⟨58, _⟩ => ⟨S2048x512, .f32⟩
  | .hbm, ⟨59, _⟩ => ⟨S2048x512, .f32⟩
  | .hbm, ⟨60, _⟩ => ⟨S2048x512, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_cst : Ref sig .tc := ⟨.hbm, 38, rfl⟩
abbrev main_call0_v14 : Ref sig .tc := ⟨.hbm, 39, rfl⟩
abbrev main_v12 : Ref sig .tc := ⟨.hbm, 40, rfl⟩
abbrev main_v13 : Ref sig .tc := ⟨.hbm, 41, rfl⟩
abbrev main_c : Ref sig .tc := ⟨.hbm, 42, rfl⟩
abbrev main_c_1 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_c_2 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_cst_3 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩

abbrev nD : Nat := 1
abbrev τ : Topo := Topo.v7x

variable {F : FTy → Type} [FloatOps F]
-- ==== Proof.Schedule.lean ====
/-
# The schedule of the two-way ring

Four devices stand in a ring. Each sends its own four expert blocks (rounded to sixteen bits) round the ring, blocks 0 and 1 to the right
and blocks 2 and 3 to the left, in three hops. A *lane* `i : Fin 12` is one hop of one block: the lanes are numbered in the order in which
the body sends them, so that lane `i` belongs to hop `i / 4`, to block `(i / 2) % 2` of its direction, and goes right when `i` is even and
left when it is odd. A lane from hop 1 on forwards what the lane four places before it brought.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Neighbours -/

set_option backward.proofsInPublic true in
/-- The right neighbour of a device. -/
def nxt (c : Dev nD) : Dev nD := ⟨(c.val + 1) % 4, Nat.mod_lt _ (by decide)⟩
set_option backward.proofsInPublic true in
/-- The left neighbour of a device. -/
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide

def ring : Dev nD ≃ Dev nD := ⟨nxt, prv, prv_nxt, nxt_prv⟩

/-- The device that lane `i` goes to from `c`. -/
def tgt (i : Fin 12) (c : Dev nD) : Dev nD := if i.val % 2 = 0 then nxt c else prv c
/-- The device that lane `i` comes from at `c`. -/
def org (i : Fin 12) (c : Dev nD) : Dev nD := if i.val % 2 = 0 then prv c else nxt c
theorem org_tgt (i : Fin 12) (c : Dev nD) : org i (tgt i c) = c := by revert i c; decide
theorem tgt_org (i : Fin 12) (c : Dev nD) : tgt i (org i c) = c := by revert i c; decide

set_option backward.proofsInPublic true in
/-- The device whose block lane `i` brings to `c`. -/
def srcD (i : Fin 12) (c : Dev nD) : Dev nD :=
  ⟨(c.val + (if i.val % 2 = 0 then 3 else 1) * (i.val / 4 + 1)) % 4, Nat.mod_lt _ (by decide)⟩
set_option backward.proofsInPublic true in
/-- Which of that device's four blocks it is. -/
def blkK (i : Fin 12) : Fin 4 := ⟨((i.val / 2) % 2 + 2 * (i.val % 2)) % 4, Nat.mod_lt _ (by decide)⟩

/-! ## Buffers -/

theorem inbE : ∀ (k : Fin 4) (a : Fin 3), (![k.val, 0, 0] : Fin 3 → ℕ) a + S1x256x512.size a ≤ S4x256x512.size a := by decide
theorem inbC : ∀ (h : Fin 3) (j : Fin 2) (a : Fin 4), (![h.val, j.val, 0, 0] : Fin 4 → ℕ) a + S1x1x256x512.size a ≤ S3x2x256x512.size a := by decide

abbrev rE (k : Fin 4) : Rect S4x256x512 := Rect.unit (s := S4x256x512) ![k.val, 0, 0] S1x256x512.size (inbE k)
abbrev rC (h : Fin 3) (j : Fin 2) : Rect S3x2x256x512 := Rect.unit (s := S3x2x256x512) ![h.val, j.val, 0, 0] S1x1x256x512.size (inbC h j)

/-- The rounded copy of the device's own block `k`. -/
abbrev eM (k : Fin 4) : Memref sig .tc .vmem S256x512 .bf16 :=
  ((Memref.whole cc0_scratch0).slice (rE k) (fun _ => rfl)).squeeze S256x512 squeezes_S1x256x512_S256x512
/-- The landing slots from the left, -/
abbrev aM (h : Fin 3) (j : Fin 2) : Memref sig .tc .vmem S256x512 .bf16 :=
  ((Memref.whole cc0_scratch1).slice (rC h j) (fun _ => rfl)).squeeze S256x512 squeezes_S1x1x256x512_S256x512
/-- and from the right. -/
abbrev bM (h : Fin 3) (j : Fin 2) : Memref sig .tc .vmem S256x512 .bf16 :=
  ((Memref.whole cc0_scratch2).slice (rC h j) (fun _ => rfl)).squeeze S256x512 squeezes_S1x1x256x512_S256x512

/-- Where lane `i` lands. -/
def dM (i : Fin 12) : Memref sig .tc .vmem S256x512 .bf16 := match i with
  | 0 => aM 0 0 | 1 => bM 0 0 | 2 => aM 0 1 | 3 => bM 0 1
  | 4 => aM 1 0 | 5 => bM 1 0 | 6 => aM 1 1 | 7 => bM 1 1
  | 8 => aM 2 0 | 9 => bM 2 0 | 10 => aM 2 1 | 11 => bM 2 1

/-- What lane `i` reads: an own block at hop 0, else the slot the lane four places earlier filled. -/
def sM (i : Fin 12) : Memref sig .tc .vmem S256x512 .bf16 := match i with
  | 0 => eM 0 | 1 => eM 2 | 2 => eM 1 | 3 => eM 3
  | 4 => dM 0 | 5 => dM 1 | 6 => dM 2 | 7 => dM 3
  | 8 => dM 4 | 9 => dM 5 | 10 => dM 6 | 11 => dM 7

/-- The share of the source a lane takes along: the whole at hop 0; half of a landing slot later, since the body reads the slot meanwhile. -/
def qS (i : Fin 12) : PosShare TreeShare := if i.val < 4 then fullShare else fullShare.left

/-! ## Semaphores and cells -/

abbrev barS : Sem sig := (SemArray.scalar (sig.barrier 0 rfl) : Sems sig S_).sem

set_option backward.proofsInPublic true in
/-- The place of lane `i`'s send cell among the device's twenty-five, -/
def sIx (i : Fin 12) : Fin 25 := ⟨1 + 12 * (i.val % 2) + 2 * (i.val / 4) + i.val / 2 % 2, by have := i.isLt; omega⟩
set_option backward.proofsInPublic true in
/-- and of its receive cell. -/
def rIx (i : Fin 12) : Fin 25 := ⟨7 + 12 * (i.val % 2) + 2 * (i.val / 4) + i.val / 2 % 2, by have := i.isLt; omega⟩

set_option backward.proofsInPublic true in
/-- The transfer semaphore at place `k`. -/
def dS (k : Fin 25) : DmaSem sig := ⟨5 + k.val, by have := k.isLt; show 5 + k.val < 30; omega⟩

def csem (k : Fin 25) : SemLoc sig := if k = 0 then .reg barS else .dma (dS k)
def kcell (ck : Dev nD × Fin 25) : GSem nD τ sig := ((ck.1 : Thread nD τ), csem ck.2)

abbrev barCell (c : Dev nD) : GSem nD τ sig := ((c : Thread nD τ), .reg barS)
abbrev sCell (i : Fin 12) (c : Dev nD) : GSem nD τ sig := ((c : Thread nD τ), .dma (dS (sIx i)))
abbrev rCell (i : Fin 12) (c : Dev nD) : GSem nD τ sig := ((c : Thread nD τ), .dma (dS (rIx i)))

theorem sIx_ne : ∀ i : Fin 12, sIx i ≠ 0 := by decide
theorem rIx_ne : ∀ i : Fin 12, rIx i ≠ 0 := by decide
theorem kcell_bar (c : Dev nD) : kcell (c, 0) = barCell c := rfl
theorem kcell_s (c : Dev nD) (i : Fin 12) : kcell (c, sIx i) = sCell i c := by
  unfold kcell csem; rw [if_neg (sIx_ne i)]
theorem kcell_r (c : Dev nD) (i : Fin 12) : kcell (c, rIx i) = rCell i c := by
  unfold kcell csem; rw [if_neg (rIx_ne i)]

/-- The credit of one block's transfer. -/
abbrev N : ℕ := (aM 0 0).view.dmaCredit
theorem N_pos : 0 < N := View.dmaCredit_pos _ (by decide)

set_option backward.proofsInPublic true in
/-- The lane of a transfer semaphore, -/
def laneOf (q : DmaSem sig) : Fin 12 := ⟨(4 * ((q.val - 6) % 6 / 2) + 2 * ((q.val - 6) % 2) + (q.val - 6) / 12) % 12, Nat.mod_lt _ (by decide)⟩
/-- and whether it is the receiving end. -/
def isR (q : DmaSem sig) : Bool := (q.val - 6) / 6 % 2 == 1

theorem laneOf_s (i : Fin 12) : laneOf (dS (sIx i)) = i := by revert i; decide
theorem laneOf_r (i : Fin 12) : laneOf (dS (rIx i)) = i := by revert i; decide
theorem isR_s (i : Fin 12) : isR (dS (sIx i)) = false := by revert i; decide
theorem isR_r (i : Fin 12) : isR (dS (rIx i)) = true := by revert i; decide

/-! ## Contents -/

/-- The device's expert blocks as the pipeline stages them. -/
def ewst (c : Dev nD) : (cc0_stg3_0 : Ref sig .tc).ty.Contents (Elt F) :=
  (win0_3.blk (0 : Fin 1)).view.read (Elt F) (m ((c : Thread nD τ).loc main_arg3))

/-- Block `k` of device `d` as the body loads it, -/
def ewLd (d : Dev nD) (k : Fin 4) : Vec F S1x256x512 .f32 :=
  (Memref.whole cc0_stg3_0).view.readAt (Elt F) (rE k).toLoadRect (ewst m d)
/-- and rounded. -/
def wbf (d : Dev nD) (k : Fin 4) : Vec F S256x512 .bf16 := k0_pay4 (ewLd m d k)

/-- What lane `i` brings to `c`. -/
def cont (i : Fin 12) (c : Dev nD) : Vec F S256x512 .bf16 := wbf m (srcD i c) (blkK i)

/-- A slot held with a share at given contents. -/
abbrev hold (c : Dev nD) (M : Memref sig .tc .vmem S256x512 .bf16) (q : PosShare TreeShare) (X : Vec F S256x512 .bf16) : sProp 𝕄 :=
  owns (c : Thread nD τ) M q X

/-- A landing slot held at any contents. -/
def land (i : Fin 12) (d : Dev nD) : sProp 𝕄 := iprop(∃ X, hold d (dM i) fullShare X)

instance land_storable (i : Fin 12) (d : Dev nD) : BI.Storable (upEmb : UEmb _ 𝕄) (land (F := F) i d) := by unfold land; infer_instance

/-! ## The schedule -/

/-- What the right neighbour of `d` hands `d` at the barrier: its slots of the lanes going right. -/
def payT (d : Dev nD) : sProp 𝕄 :=
  iprop(land 0 (nxt d) ∗ land 2 (nxt d) ∗ land 4 (nxt d) ∗ land 6 (nxt d) ∗ land 8 (nxt d) ∗ land 10 (nxt d))
/-- And the left neighbour: its slots of the lanes going left. -/
def payF (d : Dev nD) : sProp 𝕄 :=
  iprop(land 1 (prv d) ∗ land 3 (prv d) ∗ land 5 (prv d) ∗ land 7 (prv d) ∗ land 9 (prv d) ∗ land 11 (prv d))

abbrev IsBar (g : GSem nD τ sig) : Prop := g.1.2 = .tc ∧ g.2 = .reg barS
abbrev IsXfer (g : GSem nD τ sig) : Prop := g.1.2 = .tc ∧ ∃ i : Fin 12, g.2 = .dma (dS (sIx i)) ∨ g.2 = .dma (dS (rIx i))

/-- The payload of a transfer semaphore: at the receiving end the filled slot, at the sending end the share of the source. -/
def payD (q : DmaSem sig) (c : Dev nD) : sProp 𝕄 :=
  if isR q then hold c (dM (laneOf q)) fullShare (cont m (laneOf q) c)
  else hold c (sM (laneOf q)) (qS (laneOf q)) (cont m (laneOf q) (tgt (laneOf q) c))

/-- One round: the barrier cell has two duties of one unit, a transfer cell one duty of a block's credit. -/
def rd : Rounds.Schedule (GSem nD τ sig) Bool 𝕄 where
  duties g r := open Classical in if r = 0 ∧ IsBar g then Finset.univ else if r = 0 ∧ IsXfer g then {false} else ∅
  unitless _ := False
  amount g _ _ := if g.2 = .reg barS then 1 else N
  payload g _ d := match g.2 with
    | .dma q => payD m q g.1.1
    | .reg _ => if d then payT g.1.1 else payF g.1.1
  amount_pos g _ _ _ := by
    by_cases h : g.2 = .reg barS
    · rw [if_pos h]; exact Nat.one_pos
    · rw [if_neg h]; exact N_pos

instance rd_storable (g : GSem nD τ sig) (r : ℕ) (d : Bool) : BI.Storable (upEmb : UEmb _ 𝕄) ((rd (F := F) m).payload g r d) := by
  obtain ⟨t, s⟩ := g
  cases s with
  | reg q => show BI.Storable upEmb (if d then payT t.1 else payF t.1); unfold payT payF; split <;> infer_instance
  | dma q => show BI.Storable upEmb (payD m q t.1); unfold payD hold; split <;> infer_instance

section Tables
variable (c : Dev nD) (i : Fin 12)

theorem duties_bar : (rd m).duties (barCell c) 0 = Finset.univ := by dsimp only [rd]; exact if_pos ⟨rfl, rfl, rfl⟩
theorem duties_s : (rd m).duties (sCell i c) 0 = {false} := by
  dsimp only [rd]; rw [if_neg (fun h => by cases h.2.2)]; exact if_pos ⟨rfl, rfl, i, .inl rfl⟩
theorem duties_r : (rd m).duties (rCell i c) 0 = {false} := by
  dsimp only [rd]; rw [if_neg (fun h => by cases h.2.2)]; exact if_pos ⟨rfl, rfl, i, .inr rfl⟩
theorem duties_later (g : GSem nD τ sig) : ∀ r, 1 ≤ r → (rd m).duties g r = ∅ :=
  fun r hr => by dsimp only [rd]; rw [if_neg fun h => by omega, if_neg fun h => by omega]

theorem amount_bar (d : Bool) : (rd m).amount (barCell c) 0 d = 1 := by dsimp only [rd]; exact if_pos rfl
theorem amount_dma (q : DmaSem sig) (d : Bool) : (rd m).amount ((c : Thread nD τ), .dma q) 0 d = N := by
  dsimp only [rd]; exact if_neg (fun h => by cases h)

theorem expect_bar : (rd m).expect (barCell c) 0 = 2 := by
  unfold Schedule.expect Schedule.amountOf
  rw [duties_bar, Finset.sum_congr rfl fun d _ => amount_bar m c d, Finset.sum_const, Finset.card_univ, Fintype.card_bool, smul_eq_mul]
theorem expect_s : (rd m).expect (sCell i c) 0 = N := by
  unfold Schedule.expect Schedule.amountOf; rw [duties_s, Finset.sum_singleton, amount_dma]
theorem expect_r : (rd m).expect (rCell i c) 0 = N := by
  unfold Schedule.expect Schedule.amountOf; rw [duties_r, Finset.sum_singleton, amount_dma]

theorem payload_true : (rd m).payload (barCell c) 0 true = payT c := rfl
theorem payload_false : (rd m).payload (barCell c) 0 false = payF c := rfl
theorem payload_s (d : Bool) : (rd m).payload (sCell i c) 0 d = hold c (sM i) (qS i) (cont m i (tgt i c)) := by
  show payD m (dS (sIx i)) c = _
  unfold payD; rw [isR_s, laneOf_s]; rfl
theorem payload_r (d : Bool) : (rd m).payload (rCell i c) 0 d = hold c (dM i) fullShare (cont m i c) := by
  show payD m (dS (rIx i)) c = _
  unfold payD; rw [isR_r, laneOf_r]; rfl

theorem rest_bar : bigSep ((rd m).duties (barCell c) 0 \ ∅) (fun d => (rd m).payload (barCell c) 0 d) = iprop(payF c ∗ payT c) := by
  rw [Finset.sdiff_empty, duties_bar, bigSep_univ_eq_bigSepL [false, true] (by decide) (by decide), bigSepL_cons_cons, bigSepL_singleton,
    payload_false, payload_true]
  rfl
theorem rest_s : bigSep ((rd m).duties (sCell i c) 0 \ ∅) (fun d => (rd m).payload (sCell i c) 0 d) = hold c (sM i) (qS i) (cont m i (tgt i c)) := by
  rw [Finset.sdiff_empty, duties_s, bigSep_singleton, payload_s]
theorem rest_r : bigSep ((rd m).duties (rCell i c) 0 \ ∅) (fun d => (rd m).payload (rCell i c) 0 d) = hold c (dM i) fullShare (cont m i c) := by
  rw [Finset.sdiff_empty, duties_r, bigSep_singleton, payload_r]

end Tables

/-! ## What a device owes, and the levels -/

set_option backward.proofsInPublic true in
/-- The lane sent when `k + 1` are still to send. -/
def lastLane (k : ℕ) : Fin 12 := ⟨(11 - k) % 12, Nat.mod_lt _ (by decide)⟩

/-- What `c` owes to receive cells while its last `k` lanes are unsent. -/
def owesR (c : Dev nD) : ℕ → CellTallies nD τ sig Unit
  | 0 => 0
  | k + 1 => owesR c k + tallyAt (rCell (lastLane k) (tgt (lastLane k) c)) () N

def O₁ (c : Dev nD) : CellTallies nD τ sig Unit := owesR c 12 + tallyAt (barCell (nxt c)) () 1
def O₀ (c : Dev nD) : CellTallies nD τ sig Unit := O₁ c + tallyAt (barCell (prv c)) () 1

def L (g : GSem nD τ sig) : Finset Unit := if g.1.2 = .tc then {()} else ∅
/-- Barrier cells stand at level 1, the receive cell of lane `i` at `2 + i`, all others at 0. -/
def lv (g : GSem nD τ sig) (_ : Unit) : ℕ := match g.2 with
  | .reg _ => 1
  | .dma q => if isR q then 2 + (laneOf q).val else 0

theorem L_of_ne (g : GSem nD τ sig) (h : g.1.2 ≠ .tc) : L g = ∅ := if_neg h
theorem L_tc (c : Dev nD) (sm : SemLoc sig) : L ((c : Thread nD τ), sm) = {()} := if_pos rfl

theorem lv_r (i : Fin 12) (c : Dev nD) (u : Unit) : lv (rCell i c) u = 2 + i.val := by
  show (if isR (dS (rIx i)) then 2 + (laneOf (dS (rIx i))).val else 0) = _
  rw [isR_r, laneOf_r]; rfl
theorem lv_s (i : Fin 12) (c : Dev nD) (u : Unit) : lv (sCell i c) u = 0 := by
  show (if isR (dS (sIx i)) then 2 + (laneOf (dS (sIx i))).val else 0) = _
  rw [isR_s]; rfl

theorem owesR_pos {c : Dev nD} {g : GSem nD τ sig} {u : Unit} : ∀ k : ℕ, k ≤ 12 → 0 < owesR c k g u → ∃ i : Fin 12, 12 ≤ i.val + k ∧ ∃ d, g = rCell i d
  | 0, _, h => by simp [owesR] at h
  | k + 1, hk, h => by
    unfold owesR at h
    rw [Pi.add_apply, Finsupp.add_apply, tallyAt_apply] at h
    by_cases hg : g = rCell (lastLane k) (tgt (lastLane k) c) ∧ u = ()
    · exact ⟨lastLane k, by simp only [lastLane]; omega, _, hg.1⟩
    · rw [if_neg hg, Nat.add_zero] at h
      obtain ⟨i, hi, e⟩ := owesR_pos k (by omega) h
      exact ⟨i, by omega, e⟩

theorem O₀_pos {c : Dev nD} {g : GSem nD τ sig} {u : Unit} (h : 0 < O₀ c g u) : (∃ i d, g = rCell i d) ∨ ∃ d, g = barCell d := by
  have h12 : 0 < owesR c 12 g u → ∃ i d, g = rCell i d := fun h => by obtain ⟨i, -, e⟩ := owesR_pos 12 le_rfl h; exact ⟨i, e⟩
  unfold O₀ O₁ at h
  generalize owesR c 12 = X at h h12
  rw [Pi.add_apply, Finsupp.add_apply, Pi.add_apply, Finsupp.add_apply, tallyAt_apply, tallyAt_apply] at h
  by_contra hn
  rw [not_or] at hn
  rw [if_neg (fun h' => hn.2 ⟨_, h'.1⟩), if_neg (fun h' => hn.2 ⟨_, h'.1⟩)] at h
  exact hn.1 (h12 h)

theorem mayWait_bar (c : Dev nD) : (levAts L lv : sProp 𝕄) ⊢ MayWait (c : Thread nD τ) (.reg barS) () (owesR c 12) :=
  MayOwe.of_cut (L := L) (lev := lv) 1 (fun p hp => by rw [Finset.mem_singleton.mp hp, L_tc]; exact Finset.mem_singleton_self _)
    (fun g u hg => by obtain ⟨i, -, d, rfl⟩ := owesR_pos 12 le_rfl hg; rw [L_tc]; exact Finset.mem_singleton_self _)
    (fun p hp => by rw [Finset.mem_singleton.mp hp]; exact le_rfl)
    (fun g u hg => by obtain ⟨i, -, d, rfl⟩ := owesR_pos 12 le_rfl hg; rw [lv_r]; omega)

/-- Lane `i` may be awaited while only later lanes are unsent. -/
theorem mayWait_r (c : Dev nD) (i : Fin 12) (k : ℕ) (hk : i.val + k < 12) :
    (levAts L lv : sProp 𝕄) ⊢ MayWait (c : Thread nD τ) (.dma (dS (rIx i))) () (owesR c k) :=
  MayOwe.of_cut (L := L) (lev := lv) (2 + i.val) (fun p hp => by rw [Finset.mem_singleton.mp hp, L_tc]; exact Finset.mem_singleton_self _)
    (fun g u hg => by obtain ⟨i, -, d, rfl⟩ := owesR_pos k (by omega) hg; rw [L_tc]; exact Finset.mem_singleton_self _)
    (fun p hp => by rw [Finset.mem_singleton.mp hp]; exact le_of_eq (lv_r i c ()))
    (fun g u hg => by obtain ⟨i', hi, d, rfl⟩ := owesR_pos k (by omega) hg; rw [lv_r]; omega)

/-- A staging semaphore may be awaited at launch and at the end. -/
theorem mayWait_stage (c : Dev nD) (q : DmaSem sig) (hq : isR q = false) (O : CellTallies nD τ sig Unit) (hO : O = O₀ c ∨ O = 0) :
    (levAts L lv : sProp 𝕄) ⊢ MayWait (c : Thread nD τ) (.dma q) () O := by
  rcases hO with rfl | rfl
  · exact MayOwe.of_cut (L := L) (lev := lv) 0 (fun p hp => by rw [Finset.mem_singleton.mp hp, L_tc]; exact Finset.mem_singleton_self _)
      (fun g u hg => by rcases O₀_pos hg with ⟨i, d, rfl⟩ | ⟨d, rfl⟩ <;> (rw [L_tc]; exact Finset.mem_singleton_self _))
      (fun p hp => by rw [Finset.mem_singleton.mp hp]; show (if isR q then _ else 0) ≤ 0; rw [hq]; exact le_rfl)
      (fun g u hg => by
        rcases O₀_pos hg with ⟨i, d, rfl⟩ | ⟨d, rfl⟩
        · rw [lv_r]; omega
        · exact Nat.one_pos)
  · rw [MayWait_zero]; iintro -; iempintro

end Cert.RingProof
-- ==== Proof.Steps.lean ====
/-
# One rule for each kind of step of the body

Every step of the body is one of few: send a lane, await a lane's landing, await that a lane's source is free again, round an own block into
its send slot, load a landing slot, and load or store a staged block. The rules here take the lane or the block as a parameter and are
stated over a program whose memrefs and semaphores are only equal to the lane's.
-/
module

public import proofs.«01_k».proof.Proof.Schedule

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The weakest precondition of a stretch of the body on device `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## What is known of all cells -/

/-- Every cell of every device has its invariant and has reached its one round. -/
def recs (K : Dev nD × Fin 25 → ℕ) : sProp 𝕄 :=
  bigSep Finset.univ fun ck : Dev nD × Fin 25 => iprop(cellInv ER (rd m) (K ck) (kcell ck) ∗ reached ER (kcell ck) 0)

instance recs_persistent (K : Dev nD × Fin 25 → ℕ) : BI.Persistent (recs m K) := by unfold recs; infer_instance

variable (K : Dev nD × Fin 25 → ℕ)

theorem recs_at (ck : Dev nD × Fin 25) : recs m K ⊢ iprop(cellInv ER (rd m) (K ck) (kcell ck) ∗ reached ER (kcell ck) 0) :=
  bigSep_elim (Finset.mem_univ ck)
theorem recs_bar (c : Dev nD) : recs m K ⊢ iprop(cellInv ER (rd m) (K (c, 0)) (barCell c) ∗ reached ER (barCell c) 0) := recs_at m K (c, 0)
theorem recs_s (c : Dev nD) (i : Fin 12) : recs m K ⊢ iprop(cellInv ER (rd m) (K (c, sIx i)) (sCell i c) ∗ reached ER (sCell i c) 0) := by
  rw [← kcell_s]; exact recs_at m K _
theorem recs_r (c : Dev nD) (i : Fin 12) : recs m K ⊢ iprop(cellInv ER (rd m) (K (c, rIx i)) (rCell i c) ∗ reached ER (rCell i c) 0) := by
  rw [← kcell_r]; exact recs_at m K _

/-- What a device owes, whatever it has awaited so far. -/
def ow (c : Dev nD) (O : CellTallies nD τ sig Unit) : sProp 𝕄 := iprop(∃ W, owes (c : Thread nD τ) O W)

/-- The two tokens a device sends lane `i` with. -/
def ltok (i : Fin 12) (c : Dev nD) : sProp 𝕄 := iprop(dutyTok ER (sCell i c) 0 false ∗ dutyTok ER (rCell i (tgt i c)) 0 false)
/-- What a device awaits lane `i`'s landing with. -/
def rkit (i : Fin 12) (c : Dev nD) : sProp 𝕄 := iprop(cred (tallyAt (rCell i c) () N) ∗ atPos ER (rCell i c) 0 ∅ 0)
/-- What a device awaits the end of lane `i`'s send with, once sent. -/
def skit (i : Fin 12) (c : Dev nD) : sProp 𝕄 := iprop(cred (tallyAt (sCell i c) () N) ∗ atPos ER (sCell i c) 0 ∅ 0)
/-- What a device needs to send lane `i`. -/
def lkit (i : Fin 12) (c : Dev nD) : sProp 𝕄 := iprop(ltok i c ∗ atPos ER (sCell i c) 0 ∅ 0 ∗ land i (tgt i c))

theorem srcD_tgt (i : Fin 12) (c : Dev nD) : cont m i (tgt i c) = wbf m (if i.val < 4 then c else srcD ⟨i.val - 4, by have := i.isLt; omega⟩ c) (blkK i) := by
  unfold cont; congr 1; revert i c; decide

theorem credit_dM (i : Fin 12) : (dM i).view.dmaCredit = N := by
  match i with
  | 0 => rfl | 1 => rfl | 2 => rfl | 3 => rfl | 4 => rfl | 5 => rfl | 6 => rfl | 7 => rfl | 8 => rfl | 9 => rfl | 10 => rfl | 11 => rfl

/-- Sending lane `i`, when `k + 1` lanes are unsent. -/
theorem wp_lane_send (c n : Dev nD) (i : Fin 12) (k : ℕ) (hk : lastLane k = i) (hn : n = tgt i c)
    {src dst : Memref sig .tc .vmem S256x512 .bf16} {sS rS : DmaSem sig}
    (hsrcM : src = sM i) (hdstM : dst = dM i) (hsS : sS = dS (sIx i)) (hrS : rS = dS (rIx i))
    {hsc : dst.view.ref.isScScratch = false} {hsrc : src.view.WordExact} {hdst : dst.view.WordExact}
    {hsem : DmaTarget.Typed .vmem (.dma rS) (.remote (Dev.tc n : Thread nD τ) dst (.dma sS) hsc)}
    {α : Type} {Q : α → sProp 𝕄} {kk : PUnit → Prog (TpuEff nD τ sig (Elt F) Λ₀ .tc) α} :
    iprop(recs m K ∗ hold c (sM i) (qS i) (cont m i (tgt i c)) ∗ lkit i c ∗ ow c (owesR c (k + 1)))
      ⊢ iprop(((skit i c ∗ ow c (owesR c k)) -∗ WP c (kk ⟨⟩) Q)
          -∗ WP c (.op (.enqueueDma src (.remote (Dev.tc n : Thread nD τ) dst (.dma sS) hsc) (.dma rS) hsrc hdst hsem) kk) Q) := by
  subst hn hsrcM hdstM hsS hrS
  unfold lkit ltok ow hold owns skit land
  iintro ⟨#Hrec, ⟨%fs, %hfs, Hsrc⟩, ⟨⟨Ht1, Ht2⟩, Hat, ⟨%X0, Hl⟩⟩, ⟨%W, HO⟩⟩
  unfold hold owns
  icases Hl with ⟨%fd, %hfd, Hdst⟩
  iintro Hk
  ihave Hs := (recs_s m K c i) $$ Hrec
  icases Hs with ⟨#HIs, #HRs⟩
  ihave Hr := (recs_r m K (tgt i c) i) $$ Hrec
  icases Hr with ⟨#HIr, #HRr⟩
  iapply (Rounds.wp_send_pointsTo 𝒱₀ ER (rd m) (c : Thread nD τ) none (κ₁ := K (c, sIx i)) (κ₂ := K (tgt i c, rIx i))
    (r₁ := 0) (r₂ := 0) (d₁ := false) (d₂ := false) (fs := fs) (fd := fd) (q := qS i)
    (by rw [duties_s]; exact Finset.mem_singleton_self _) (by rw [duties_r]; exact Finset.mem_singleton_self _)
    () () N (show (dM i).view.amount (.dma (dS (rIx i))) = N from credit_dM i) (amount_dma m c _ false) (amount_dma m (tgt i c) _ false) (owesR c k) (by subst hk; rfl) (W := W)
    (by rw [payload_s]; unfold hold owns; iintro H; iexists fs; isplitr; · (ipureintro; exact hfs)
        iexact H)
    (by rw [payload_r]; unfold hold owns; iintro H; iexists _; isplitr
        rotate_left
        · iexact H
        · ipureintro; exact (View.read_write_univ _ _).trans hfs)) $$ [Hsrc Hdst HO Ht1 Ht2]
  · isplitr; · iexact HIs
    isplitr; · iexact HIr
    isplitl [Hsrc]; · iexact Hsrc
    isplitl [Hdst]; · iexact Hdst
    isplitl [HO]; · iexact HO
    isplitl [Ht1]; · iexact Ht1
    isplitr; · iexact HRs
    isplitl [Ht2]; · iexact Ht2
    iexact HRr
  iintro ⟨Hc, HO⟩
  iapply Hk
  isplitl [Hc Hat]
  · isplitl [Hc]; · iexact Hc
    iexact Hat
  iexists W; iexact HO

/-- Awaiting lane `i`'s landing while `k` lanes are unsent. -/
theorem wp_lane_recv (c : Dev nD) (i : Fin 12) (k : ℕ) (hk : i.val + k < 12) {rS : DmaSem sig} (hrS : rS = dS (rIx i))
    {src dst : Memref sig .tc .vmem S256x512 .bf16} (hcr : dst.view.dmaCredit = N)
    {hsrc : src.view.WordExact} {hdst : dst.view.WordExact}
    {α : Type} {Q : α → sProp 𝕄} {kk : PUnit → Prog (TpuEff nD τ sig (Elt F) Λ₀ .tc) α} :
    iprop(recs m K ∗ levAts L lv ∗ rkit i c ∗ ow c (owesR c k))
      ⊢ iprop(((hold c (dM i) fullShare (cont m i c) ∗ semVal (rCell i c) 0 ∗ ow c (owesR c k)) -∗ WP c (kk ⟨⟩) Q)
          -∗ WP c (.op (.waitDma2 rS src dst hsrc hdst) kk) Q) := by
  subst hrS
  unfold ow rkit
  iintro ⟨#Hrec, #Hlev, ⟨Hc, Hat⟩, ⟨%W, HO⟩⟩ Hk
  ihave Hr := (recs_r m K c i) $$ Hrec
  icases Hr with ⟨#HIr, -⟩
  iapply (Rounds.wp_wait_rest_token 𝒱₀ ER (rd m) (c : Thread nD τ) none (κ := K (c, rIx i))
      (wpE_waitDma2_eq 𝒱₀ (c : Thread nD τ) none Set.univ) (Set.mem_univ _) () (O := owesR c k) (W := W) (R := 0) (m := 0) (T := ∅)
      (k' := dst.view.dmaCredit) (by rw [Nat.zero_add, expect_r])) $$ [Hc HO Hat]
  · isplitr; · iexact HIr
    isplitl [Hc]; · rw [hcr]; iexact Hc
    isplitl [HO]; · iexact HO
    isplitr; · iapply (mayWait_r c i k hk); iexact Hlev
    iexact Hat
  iintro ⟨HO, Hat, -, Hpay⟩
  ihave Hp := (Entails.of_eq (rest_r m c i)) $$ Hpay
  imod (Rounds.cell_close ER (rd m) (Set.mem_univ (K (c, rIx i))) (fun h => h) (R := 0 + 1) (duties_later m (rCell i c))) $$ [Hat] with Hz
  · isplitr; · iexact HIr
    iexact Hat
  iapply Hk
  isplitl [Hp]; · iexact Hp
  isplitl [Hz]; · iexact Hz
  iexists _; iexact HO

/-- Awaiting the end of lane `i`'s send, nothing owed any more. -/
theorem wp_lane_done (c : Dev nD) (i : Fin 12) {sS : DmaSem sig} (hsS : sS = dS (sIx i))
    {src dst : Memref sig .tc .vmem S256x512 .bf16} (hcr : dst.view.dmaCredit = N)
    {hsrc : src.view.WordExact} {hdst : dst.view.WordExact}
    {α : Type} {Q : α → sProp 𝕄} {kk : PUnit → Prog (TpuEff nD τ sig (Elt F) Λ₀ .tc) α} :
    iprop(recs m K ∗ skit i c ∗ ow c 0)
      ⊢ iprop(((hold c (sM i) (qS i) (cont m i (tgt i c)) ∗ semVal (sCell i c) 0 ∗ ow c 0) -∗ WP c (kk ⟨⟩) Q)
          -∗ WP c (.op (.waitDma2 sS src dst hsrc hdst) kk) Q) := by
  subst hsS
  unfold ow skit
  iintro ⟨#Hrec, ⟨Hc, Hat⟩, ⟨%W, HO⟩⟩ Hk
  ihave Hr := (recs_s m K c i) $$ Hrec
  icases Hr with ⟨#HIr, -⟩
  iapply (Rounds.wp_wait_rest_token 𝒱₀ ER (rd m) (c : Thread nD τ) none (κ := K (c, sIx i))
      (wpE_waitDma2_eq 𝒱₀ (c : Thread nD τ) none Set.univ) (Set.mem_univ _) () (O := 0) (W := W) (R := 0) (m := 0) (T := ∅)
      (k' := dst.view.dmaCredit) (by rw [Nat.zero_add, expect_s])) $$ [Hc HO Hat]
  · isplitr; · iexact HIr
    isplitl [Hc]; · rw [hcr]; iexact Hc
    isplitl [HO]; · iexact HO
    isplitr; · rw [MayWait_zero]; iempintro
    iexact Hat
  iintro ⟨HO, Hat, -, Hpay⟩
  ihave Hp := (Entails.of_eq (rest_s m c i)) $$ Hpay
  imod (Rounds.cell_close ER (rd m) (Set.mem_univ (K (c, sIx i))) (fun h => h) (R := 0 + 1) (duties_later m (sCell i c))) $$ [Hat] with Hz
  · isplitr; · iexact HIr
    iexact Hat
  iapply Hk
  isplitl [Hp]; · iexact Hp
  isplitl [Hz]; · iexact Hz
  iexists _; iexact HO

/-! ## Loads and stores -/

theorem hz2 : (![0, 0] : Fin 2 → ℕ) = fun _ => 0 := funext fun a => by fin_cases a <;> rfl
/-- A load through the rectangle of everything reads what the view reads. -/
theorem readAt_all (M : Memref sig .tc .vmem S256x512 .bf16) {off : Fin 2 → ℕ} (h : off = fun _ => 0)
    (inb : ∀ a, off a + S256x512.size a ≤ S256x512.size a) (f : M.view.ty.Contents (Elt F)) :
    M.view.readAt (Elt F) (Rect.unit (s := S256x512) off S256x512.size inb).toLoadRect f = M.view.read (Elt F) f := by
  subst h; funext j
  show M.view.read (Elt F) f ((Rect.whole S256x512).emb j) = _
  rw [Rect.emb_whole_apply]

/-- Written through a view in one shape and read in another, a payload re-indexed between the two comes back. -/
theorem read_reshape_write {s s' : Shape} {e : EltTy} {sp : Space} (v : View sig .tc sp s e) (h : s'.numel = s.numel) (h' : s.numel = s'.numel)
    (f : v.ty.Contents (Elt F)) (X : s'.Idx → Elt F e) :
    (v.reshape s' h).read (Elt F) (v.write (Elt F) f (fun j => X (Shape.reshapeEquiv h' j)) Finset.univ) = X := by
  funext j
  refine (congrFun (View.read_write_univ (v := v) f (fun j => X (Shape.reshapeEquiv h' j))) (Shape.reshapeEquiv h j)).trans ?_
  show X _ = X j
  rw [Shape.reshapeEquiv_reshapeEquiv, Shape.reshapeEquiv_self]

/-- A staging buffer held whole. -/
abbrev pt (c : Dev nD) (b : Ref sig .tc) (X : b.ty.Contents (Elt F)) : sProp 𝕄 := ((c : Thread nD τ).loc b) ↦{fullShare} X

/-- Loading all of a slot. -/
theorem wp_ld_slot (c : Dev nD) {M M' : Memref sig .tc .vmem S256x512 .bf16} (hM : M = M') (q : PosShare TreeShare) (X : Vec F S256x512 .bf16)
    {inb : ∀ a, (![0, 0] : Fin 2 → ℕ) a + S256x512.size a ≤ S256x512.size a}
    {hl : M.view.LoadsAt (Rect.unit (s := S256x512) ![0, 0] S256x512.size inb).toLoadRect}
    {α : Type} {Q : α → sProp 𝕄} {kk : Vec F S256x512 .bf16 → Prog (TpuEff nD τ sig (Elt F) Λ₀ .tc) α} :
    hold c M' q X ⊢ iprop((hold c M' q X -∗ WP c (kk X) Q)
      -∗ WP c (.op (.load M (Rect.unit (s := S256x512) ![0, 0] S256x512.size inb).toLoadRect hl) kk) Q) := by
  subst hM
  unfold hold owns
  iintro ⟨%f, %hf, H⟩ Hk
  have hr : M.view.readAt (Elt F) (Rect.unit (s := S256x512) ![0, 0] S256x512.size inb).toLoadRect f = X := by
    rw [← hf]; exact readAt_all M hz2 inb f
  iapply (wp_load 𝒱₀ (c : Thread nD τ) none Set.univ (m := M) (View.setOn_subset_set _ _)) $$ H; iintro H
  rw [hr]
  iapply Hk
  iexists f; isplitr; · (ipureintro; exact hf)
  iexact H

/-- An own send slot held at any contents. -/
def eAny (c : Dev nD) (k : Fin 4) : sProp 𝕄 := iprop(∃ X, hold c (eM k) fullShare X)

section Own
variable {s s' : Shape} {e : EltTy} (M : Memref sig .tc .vmem s e) (r : Rect s) (hr : ∀ a, r.stride a = 1) (hq : r.shape.Squeezes s')

theorem pts_squeeze (c : Dev nD) (q : PosShare TreeShare) (f : (M.access r).ty.Contents (Elt F)) :
    ((((M.slice r hr).squeeze s' hq).view.loc (c : Thread nD τ) ↦[((M.slice r hr).squeeze s' hq).view.set]{q} f : sProp 𝕄))
      = ((M.access r).loc (c : Thread nD τ) ↦[(M.access r).set]{q} f) := by
  show (((M.access r).loc (c : Thread nD τ) ↦[((M.access r).reshape s' hq.numel_eq).set]{q} f : sProp 𝕄)) = _
  rw [View.set_reshape (v := M.access r) hq.numel_eq]

theorem wp_ld_piece (c : Dev nD) {hl : M.view.LoadsAt r.toLoadRect}
    {α : Type} {Q : α → sProp 𝕄} {kk : (r.shape.Idx → Elt F e) → Prog (TpuEff nD τ sig (Elt F) Λ₀ .tc) α} :
    (iprop(∃ X, owns (c : Thread nD τ) ((M.slice r hr).squeeze s' hq) fullShare X) : sProp 𝕄)
      ⊢ iprop((∀ v, (∃ X, owns (c : Thread nD τ) ((M.slice r hr).squeeze s' hq) fullShare X) -∗ WP c (kk v) Q)
      -∗ WP c (.op (.load M r.toLoadRect hl) kk) Q) := by
  unfold owns
  iintro ⟨%X, %f, %hf, H⟩ Hk
  ihave H := (Entails.of_eq (pts_squeeze M r hr hq c fullShare f)) $$ H
  iapply (wp_load_rect 𝒱₀ (c : Thread nD τ) none Set.univ (m := M) (r := r) (Finset.Subset.refl _)) $$ H; iintro H
  ihave H := (Entails.of_eq (pts_squeeze M r hr hq c fullShare f).symm) $$ H
  iapply Hk
  iexists X; iexists f; isplitr; · (ipureintro; exact hf)
  iexact H

theorem wp_st_piece (c : Dev nD) (X : s'.Idx → Elt F e) (h' : r.shape.numel = s'.numel)
    {hx : (M.access r).Stores Finset.univ} {hm : (Finset.univ : Finset r.shape.Idx) = Finset.univ ∨ ∀ a, r.stride a = 1}
    {α : Type} {Q : α → sProp 𝕄} {kk : PUnit → Prog (TpuEff nD τ sig (Elt F) Λ₀ .tc) α} :
    (iprop(∃ X, owns (c : Thread nD τ) ((M.slice r hr).squeeze s' hq) fullShare X) : sProp 𝕄)
      ⊢ iprop((owns (c : Thread nD τ) ((M.slice r hr).squeeze s' hq) fullShare X -∗ WP c (kk ⟨⟩) Q)
      -∗ WP c (.op (.store M r (fun j => X (Shape.reshapeEquiv h' j)) Finset.univ hx hm) kk) Q) := by
  unfold owns
  iintro ⟨%X', %f, %hf, H⟩ Hk
  ihave H := (Entails.of_eq (pts_squeeze M r hr hq c fullShare f)) $$ H
  iapply (wp_store 𝒱₀ (c : Thread nD τ) none Set.univ (m := M) (r := r) (Mk := Finset.univ) (View.setOn_subset_set _ _)) $$ H; iintro H
  ihave H := (Entails.of_eq (pts_squeeze M r hr hq c fullShare _).symm) $$ H
  iapply Hk
  iexists _; isplitr
  rotate_left
  · iexact H
  · ipureintro; exact read_reshape_write _ hq.numel_eq h' f X

end Own

/-- Loading an own send slot; what is read is not used. -/
theorem wp_ld_own (c : Dev nD) (k : Fin 4) {hl : (Memref.whole cc0_scratch0 : Memref sig .tc .vmem S4x256x512 .bf16).view.LoadsAt (rE k).toLoadRect}
    {α : Type} {Q : α → sProp 𝕄} {kk : Vec F S1x256x512 .bf16 → Prog (TpuEff nD τ sig (Elt F) Λ₀ .tc) α} :
    eAny c k ⊢ iprop((∀ v, eAny c k -∗ WP c (kk v) Q)
      -∗ WP c (.op (.load (Memref.whole cc0_scratch0 : Memref sig .tc .vmem S4x256x512 .bf16) (rE k).toLoadRect hl) kk) Q) :=
  wp_ld_piece (Memref.whole cc0_scratch0 : Memref sig .tc .vmem S4x256x512 .bf16) (rE k) (fun _ => rfl) squeezes_S1x256x512_S256x512 c

/-- Storing a rounded block in its send slot. -/
theorem wp_st_own (c : Dev nD) (k : Fin 4) (X : Vec F S256x512 .bf16)
    {hx : ((Memref.whole cc0_scratch0 : Memref sig .tc .vmem S4x256x512 .bf16).access (rE k)).Stores Finset.univ} {hm : (Finset.univ : Finset (rE k).shape.Idx) = Finset.univ ∨ ∀ a, (rE k).stride a = 1}
    {α : Type} {Q : α → sProp 𝕄} {kk : PUnit → Prog (TpuEff nD τ sig (Elt F) Λ₀ .tc) α} :
    eAny c k ⊢ iprop((hold c (eM k) fullShare X -∗ WP c (kk ⟨⟩) Q)
      -∗ WP c (.op (.store (Memref.whole cc0_scratch0 : Memref sig .tc .vmem S4x256x512 .bf16) (rE k) (k0_pay5 X) Finset.univ hx hm) kk) Q) :=
  wp_st_piece (Memref.whole cc0_scratch0 : Memref sig .tc .vmem S4x256x512 .bf16) (rE k) (fun _ => rfl) squeezes_S1x256x512_S256x512 c X shapeCasts_S256x512_S1x256x512

/-! The staged blocks, loaded whole, and the accumulator, stored whole. -/

abbrev stX : Memref sig .tc .vmem S512x256 .f32 := Memref.whole cc0_stg0_0
abbrev stR : Memref sig .tc .vmem S256x16 .f32 := Memref.whole cc0_stg1_0
abbrev stI : Memref sig .tc .vmem S512x1 .i32 := Memref.whole cc0_stg2_0
abbrev stE : Memref sig .tc .vmem S4x256x512 .f32 := Memref.whole cc0_stg3_0
abbrev stW : Memref sig .tc .vmem S256x512 .f32 := Memref.whole cc0_stg4_0
abbrev stO : Memref sig .tc .vmem S512x512 .f32 := Memref.whole cc0_stg5_0

section Whole

theorem wp_ld_all (c : Dev nD) {α : Type} {Q : α → sProp 𝕄} {s : Shape} {e : EltTy} (M : Memref sig .tc .vmem s e) {r : LoadRect s} {hl : M.view.LoadsAt r} {f : Buf (Elt F) (M.view.loc (c : Thread nD τ))}
    {v : r.shape.Idx → Elt F e} (hv : M.view.readAt (Elt F) r f = v) {kk : (r.shape.Idx → Elt F e) → Prog (TpuEff nD τ sig (Elt F) Λ₀ .tc) α} :
    ((M.view.loc (c : Thread nD τ) ↦{fullShare} f : sProp 𝕄))
      ⊢ iprop(((M.view.loc (c : Thread nD τ) ↦{fullShare} f) -∗ WP c (kk v) Q) -∗ WP c (.op (.load M r hl) kk) Q) := by
  subst hv
  exact wp_load 𝒱₀ (c : Thread nD τ) none Set.univ (Finset.subset_univ _)

theorem wp_st_all (c : Dev nD) {α : Type} {Q : α → sProp 𝕄} {s : Shape} {e : EltTy} (M : Memref sig .tc .vmem s e) {r : Rect s} {w : r.shape.Idx → Elt F e} {hx : (M.access r).Stores Finset.univ}
    {hm : (Finset.univ : Finset r.shape.Idx) = Finset.univ ∨ ∀ a, r.stride a = 1} {f g : Buf (Elt F) ((M.access r).loc (c : Thread nD τ))}
    (hg : (M.access r).write (Elt F) f w Finset.univ = g) {kk : PUnit → Prog (TpuEff nD τ sig (Elt F) Λ₀ .tc) α} :
    (((M.access r).loc (c : Thread nD τ) ↦{fullShare} f : sProp 𝕄))
      ⊢ iprop((((M.access r).loc (c : Thread nD τ) ↦{fullShare} g) -∗ WP c (kk ⟨⟩) Q) -∗ WP c (.op (.store M r w Finset.univ hx hm) kk) Q) := by
  subst hg
  exact wp_store 𝒱₀ (c : Thread nD τ) none Set.univ (Finset.subset_univ _)

theorem wp_ld_x (c : Dev nD) {α : Type} {Q : α → sProp 𝕄} {kx : Vec F S512x256 .f32 → Prog (TpuEff nD τ sig (Elt F) Λ₀ .tc) α} (X : Vec F S512x256 .f32) {hl} :
    pt c cc0_stg0_0 X ⊢ iprop((pt c cc0_stg0_0 X -∗ WP c (kx X) Q)
      -∗ WP c (.op (.load stX (Rect.unit (s := S512x256) ![0, 0] S512x256.size inb_S512x256_S512x256_0_0).toLoadRect hl) kx) Q) :=
  wp_ld_all c stX (Memref.readAt_unit_zero (Elt F) cc0_stg0_0 hz2 _ X)
theorem wp_ld_r (c : Dev nD) {α : Type} {Q : α → sProp 𝕄} {kr : Vec F S256x16 .f32 → Prog (TpuEff nD τ sig (Elt F) Λ₀ .tc) α} (X : Vec F S256x16 .f32) {hl} :
    pt c cc0_stg1_0 X ⊢ iprop((pt c cc0_stg1_0 X -∗ WP c (kr X) Q)
      -∗ WP c (.op (.load stR (Rect.unit (s := S256x16) ![0, 0] S256x16.size inb_S256x16_S256x16_0_0).toLoadRect hl) kr) Q) :=
  wp_ld_all c stR (Memref.readAt_unit_zero (Elt F) cc0_stg1_0 hz2 _ X)
theorem wp_ld_i (c : Dev nD) {α : Type} {Q : α → sProp 𝕄} {ki : Vec F S512x1 .i32 → Prog (TpuEff nD τ sig (Elt F) Λ₀ .tc) α} (X : Vec F S512x1 .i32) {hl} :
    pt c cc0_stg2_0 X ⊢ iprop((pt c cc0_stg2_0 X -∗ WP c (ki X) Q)
      -∗ WP c (.op (.load stI (Rect.unit (s := S512x1) ![0, 0] S512x1.size inb_S512x1_S512x1_0_0).toLoadRect hl) ki) Q) :=
  wp_ld_all c stI (Memref.readAt_unit_zero (Elt F) cc0_stg2_0 hz2 _ X)
theorem wp_ld_w (c : Dev nD) {α : Type} {Q : α → sProp 𝕄} {kw : Vec F S256x512 .f32 → Prog (TpuEff nD τ sig (Elt F) Λ₀ .tc) α} (X : Vec F S256x512 .f32) {hl} :
    pt c cc0_stg4_0 X ⊢ iprop((pt c cc0_stg4_0 X -∗ WP c (kw X) Q)
      -∗ WP c (.op (.load stW (Rect.unit (s := S256x512) ![0, 0] S256x512.size inb_S256x512_S256x512_0_0).toLoadRect hl) kw) Q) :=
  wp_ld_all c stW (Memref.readAt_unit_zero (Elt F) cc0_stg4_0 hz2 _ X)
theorem wp_ld_o (c : Dev nD) {α : Type} {Q : α → sProp 𝕄} {ko : Vec F S512x512 .f32 → Prog (TpuEff nD τ sig (Elt F) Λ₀ .tc) α} (X : Vec F S512x512 .f32) {hl} :
    pt c cc0_stg5_0 X ⊢ iprop((pt c cc0_stg5_0 X -∗ WP c (ko X) Q)
      -∗ WP c (.op (.load stO (Rect.unit (s := S512x512) ![0, 0] S512x512.size inb_S512x512_S512x512_0_0).toLoadRect hl) ko) Q) :=
  wp_ld_all c stO (Memref.readAt_unit_zero (Elt F) cc0_stg5_0 hz2 _ X)
abbrev rO : Rect S512x512 := Rect.unit (s := S512x512) ![0, 0] S512x512.size inb_S512x512_S512x512_0_0

theorem write_o (X w : (cc0_stg5_0 : Ref sig .tc).ty.Contents (Elt F)) :
    (stO.access rO : View sig .tc _ _ _).write (Elt F) X w Finset.univ = w :=
  Memref.write_access_unit_zero_univ (Elt F) cc0_stg5_0 hz2 _ X w

theorem wp_st_o (c : Dev nD) {α : Type} {Q : α → sProp 𝕄} {kk : PUnit → Prog (TpuEff nD τ sig (Elt F) Λ₀ .tc) α} (X w : Vec F S512x512 .f32)
    {hx : (stO.access rO).Stores Finset.univ} {hm : (Finset.univ : Finset rO.shape.Idx) = Finset.univ ∨ ∀ a, rO.stride a = 1} :
    pt c cc0_stg5_0 X ⊢ iprop((pt c cc0_stg5_0 w -∗ WP c (kk ⟨⟩) Q)
      -∗ WP c (.op (.store stO rO w Finset.univ hx hm) kk) Q) := by
  iintro H Hk
  iapply (wp_store 𝒱₀ (c : Thread nD τ) none Set.univ (m := stO) (r := rO) (Mk := Finset.univ) (Finset.subset_univ _)) $$ H; iintro H
  rw [write_o]
  iapply Hk; iexact H

/-- Loading the device's own block `k` from the staged blocks. -/
theorem wp_ld_e (c : Dev nD) {α : Type} {Q : α → sProp 𝕄} {ke : Vec F S1x256x512 .f32 → Prog (TpuEff nD τ sig (Elt F) Λ₀ .tc) α} (k : Fin 4) {hl} :
    pt c cc0_stg3_0 (ewst m c) ⊢ iprop((pt c cc0_stg3_0 (ewst m c) -∗ WP c (ke (ewLd m c k)) Q)
      -∗ WP c (.op (.load stE (rE k).toLoadRect hl) ke) Q) :=
  wp_ld_all c stE rfl

end Whole

end Cert.RingProof
-- ==== Proof.BodyA.lean ====
/-
# The body, part by part

The body is printed in twenty-six parts; here the first twelve. One theorem a part: what the part needs and what it leaves, over the lanes' kits, the slots held and the
accumulator's contents.
-/
module

public import proofs.«01_k».proof.Proof.Steps

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-! ## The devices the sends go to -/

theorem dev1_eq (c : Dev nD) : (⟨k0_dev1 c, k0_dev1_lt c⟩ : Dev nD) = prv c := by revert c; decide
theorem dev2_eq (c : Dev nD) : (⟨k0_dev2 c, k0_dev2_lt c⟩ : Dev nD) = nxt c := by revert c; decide
theorem dev3_eq (c : Dev nD) : (⟨k0_dev3 c, k0_dev3_lt c⟩ : Dev nD) = tgt 0 c := by revert c; decide
theorem dev4_eq (c : Dev nD) : (⟨k0_dev4 c, k0_dev4_lt c⟩ : Dev nD) = tgt 1 c := by revert c; decide
theorem dev5_eq (c : Dev nD) : (⟨k0_dev5 c, k0_dev5_lt c⟩ : Dev nD) = tgt 2 c := by revert c; decide
theorem dev6_eq (c : Dev nD) : (⟨k0_dev6 c, k0_dev6_lt c⟩ : Dev nD) = tgt 3 c := by revert c; decide
theorem dev7_eq (c : Dev nD) : (⟨k0_dev7 c, k0_dev7_lt c⟩ : Dev nD) = tgt 4 c := by revert c; decide
theorem dev8_eq (c : Dev nD) : (⟨k0_dev8 c, k0_dev8_lt c⟩ : Dev nD) = tgt 5 c := by revert c; decide
theorem dev9_eq (c : Dev nD) : (⟨k0_dev9 c, k0_dev9_lt c⟩ : Dev nD) = tgt 6 c := by revert c; decide
theorem dev10_eq (c : Dev nD) : (⟨k0_dev10 c, k0_dev10_lt c⟩ : Dev nD) = tgt 7 c := by revert c; decide
theorem dev11_eq (c : Dev nD) : (⟨k0_dev11 c, k0_dev11_lt c⟩ : Dev nD) = tgt 8 c := by revert c; decide
theorem dev12_eq (c : Dev nD) : (⟨k0_dev12 c, k0_dev12_lt c⟩ : Dev nD) = tgt 9 c := by revert c; decide
theorem dev13_eq (c : Dev nD) : (⟨k0_dev13 c, k0_dev13_lt c⟩ : Dev nD) = tgt 10 c := by revert c; decide
theorem dev14_eq (c : Dev nD) : (⟨k0_dev14 c, k0_dev14_lt c⟩ : Dev nD) = tgt 11 c := by revert c; decide

/-- A stretch that is over. -/
theorem wp_done {α : Type} {Q : α → sProp 𝕄} (a : α) : Q a ⊢ WP (F := F) c (Prog.ret a) Q := by
  show Q a ⊢ wp frame (wpE (defs₀ (F := F)) 𝒱₀ (c : Thread nD τ) none) Set.univ (Prog.ret a) Q
  rw [wp_ret]; iintro H; imodintro; iexact H

theorem credit_sM (i : Fin 12) : (sM i).view.dmaCredit = N := by
  match i with
  | 0 => rfl | 1 => rfl | 2 => rfl | 3 => rfl | 4 => rfl | 5 => rfl | 6 => rfl | 7 => rfl | 8 => rfl | 9 => rfl | 10 => rfl | 11 => rfl

/-! ## Slots between two lanes -/

/-- An own block, once rounded and stored, is what its first lane takes along. -/
theorem own_cont (j : Fin 4) (i : Fin 12) (hM : eM j = sM i) (hq : qS i = fullShare) (hk : ∀ d, srcD i (tgt i d) = d ∧ blkK i = j) :
    (hold c (eM j) fullShare (wbf m c j) : sProp 𝕄) = hold c (sM i) (qS i) (cont m i (tgt i c)) := by
  unfold cont; rw [hM, hq, (hk c).1, (hk c).2]

/-- A landed slot in two halves: one the next lane takes along, one the body reads. -/
theorem hold_split (i j : Fin 12) (hM : sM j = dM i) (hq : qS j = fullShare.left) (hk : ∀ d, srcD j (tgt j d) = srcD i d ∧ blkK j = blkK i) :
    (hold c (dM i) fullShare (cont m i c) : sProp 𝕄)
      ⊢ iprop(hold c (sM j) (qS j) (cont m j (tgt j c)) ∗ hold c (dM i) fullShare.right (cont m i c)) := by
  unfold cont; rw [hM, hq, (hk c).1, (hk c).2]
  unfold hold owns
  iintro ⟨%f, %hf, H⟩
  ihave H := (pointsTo_share (PosShare.mem_left_op_right fullShare)).1 $$ H
  icases H with ⟨H1, H2⟩
  isplitl [H1]
  · iexists f; isplitr; · (ipureintro; exact hf)
    iexact H1
  · iexists f; isplitr; · (ipureintro; exact hf)
    iexact H2

/-! ## The two words a hop counts by -/

/-- The left source of hop `h` as the body computes it: `(v - h - 1) mod 4`. -/
def wL (h v : BitVec 32) : BitVec 32 :=
  let q : BitVec 32 := Scalar.select (Scalar.cmpi .eq 4#32 0#32) 1#32 4#32
  let r : BitVec 32 := Scalar.remsi (Scalar.subi (Scalar.subi v h) 1#32) q
  Scalar.select (Scalar.andi (Scalar.xori (Scalar.cmpi .slt r 0#32) (Scalar.cmpi .slt q 0#32)) (Scalar.cmpi .ne r 0#32)) (Scalar.addi r q) r
/-- The right source: `(v + h + 1) mod 4`. -/
def wR (h v : BitVec 32) : BitVec 32 :=
  let q : BitVec 32 := Scalar.select (Scalar.cmpi .eq 4#32 0#32) 1#32 4#32
  let r : BitVec 32 := Scalar.remsi (Scalar.addi (Scalar.addi v h) 1#32) q
  Scalar.select (Scalar.andi (Scalar.xori (Scalar.cmpi .slt r 0#32) (Scalar.cmpi .slt q 0#32)) (Scalar.cmpi .ne r 0#32)) (Scalar.addi r q) r

/-- The device's number as a word. -/
def w2 (c : Dev nD) : BitVec 32 := Scalar.remsi (Scalar.divsi (Dev.word c) 1#32) 4#32

set_option maxHeartbeats 400000 in
/-- The barrier: the device hands its landing slots to the two neighbours that fill them, and gets theirs. -/
theorem part1 {Q : (Σ' (d0 : Dev nD) (v2 : BitVec 32) (v13 : BitVec 32), BitVec 32) → sProp 𝕄} :
    iprop(recs m K ∗ levAts L lv ∗ ow c (O₀ c) ∗ dutyTok ER (barCell (prv c)) 0 true ∗ dutyTok ER (barCell (nxt c)) 0 false
        ∗ cred (tallyAt (barCell c) () 2) ∗ atPos ER (barCell c) 0 ∅ 0 ∗ payT (prv c) ∗ payF (nxt c))
      ⊢ iprop((∀ v13 v24, (payF c ∗ payT c ∗ semVal (barCell c) 0 ∗ ow c (owesR c 12)) -∗ Q ⟨c, w2 c, v13, v24⟩)
          -∗ WP c (k0_part1 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part1_eq_skeleton]; unfold k0_part1_skel
  simp only [w2, semSignalWord, semWaitWord, Prog.lift, Prog.bind_op, Prog.bind_ret, Prog.pure_eq_ret, wp_deviceId]
  unfold ow
  iintro ⟨#Hrec, #Hlev, ⟨%W, HO⟩, HtP, HtN, HcB, HatB, HpT, HpF⟩ Hq
  ihave HP := (recs_bar m K (prv c)) $$ Hrec
  icases HP with ⟨#HIP, #HRP⟩
  ihave HN := (recs_bar m K (nxt c)) $$ Hrec
  icases HN with ⟨#HIN, #HRN⟩
  ihave HB := (recs_bar m K c) $$ Hrec
  icases HB with ⟨#HIB, -⟩
  simp only [dev1_eq c, dev2_eq c]
  iapply (Rounds.wp_signal 𝒱₀ ER (rd m) (c : Thread nD τ) none (dst := (prv c : Thread nD τ)) (κ := K (prv c, 0))
      (d := true) (by rw [duties_bar]; exact Finset.mem_univ _) ((amount_bar m (prv c) true).trans (by decide)) () (O₁ c) rfl) $$ [HO HtP HpT]
  · isplitr; · iexact HIP
    isplitl [HO]; · iexact HO
    isplitl [HtP]; · iexact HtP
    isplitl [HpT]; · rw [payload_true]; iexact HpT
    iexact HRP
  iintro HO
  iapply (Rounds.wp_signal 𝒱₀ ER (rd m) (c : Thread nD τ) none (dst := (nxt c : Thread nD τ)) (κ := K (nxt c, 0))
      (d := false) (by rw [duties_bar]; exact Finset.mem_univ _) ((amount_bar m (nxt c) false).trans (by decide)) () (owesR c 12) rfl) $$ [HO HtN HpF]
  · isplitr; · iexact HIN
    isplitl [HO]; · iexact HO
    isplitl [HtN]; · iexact HtN
    isplitl [HpF]; · rw [payload_false]; iexact HpF
    iexact HRN
  iintro HO
  iapply (Rounds.wp_wait_rest_token 𝒱₀ ER (rd m) (c : Thread nD τ) none (κ := K (c, 0))
      (wpE_semWait_eq 𝒱₀ (c : Thread nD τ) none Set.univ) (Set.mem_univ _) () (O := owesR c 12) (W := W) (R := 0) (m := 0) (T := ∅)
      (by rw [expect_bar]; decide)) $$ [HcB HO HatB]
  · isplitr; · iexact HIB
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  icases Hp with ⟨HpF, HpT⟩
  imod (Rounds.cell_close ER (rd m) (Set.mem_univ (K (c, 0))) (fun h => h) (R := 0 + 1) (duties_later m (barCell c))) $$ [HatB] with HzB
  · isplitr; · iexact HIB
    iexact HatB
  iapply (wp_done c)
  iapply Hq
  isplitl [HpF]; · iexact HpF
  isplitl [HpT]; · iexact HpT
  isplitl [HzB]; · iexact HzB
  iexists _; iexact HO

theorem part2 (v13 v24 : BitVec 32) {Q : PUnit → sProp 𝕄} :
    iprop(recs m K ∗ pt c cc0_stg3_0 (ewst m c) ∗ eAny c 0 ∗ ow c (owesR c 12) ∗ lkit 0 c ∗ eAny c 2)
      ⊢ iprop(((pt c cc0_stg3_0 (ewst m c) ∗ ow c (owesR c 11) ∗ skit 0 c ∗ hold c (sM 1) (qS 1) (cont m 1 (tgt 1 c))) -∗ Q ⟨⟩)
          -∗ WP c (k0_part2 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 v24) Q) := by
  simp only [k0_part2_eq_skeleton]; unfold k0_part2_skel
  simp only [Prog.lift, Prog.bind_op, Prog.bind_ret, Prog.pure_eq_ret]
  iintro ⟨#Hrec, HE, Ho0, HO, Hk0, Ho2⟩ Hq
  iapply (wp_ld_e m c 0) $$ HE; iintro HE
  iapply (wp_ld_own c 0) $$ Ho0; iintro %_ Ho0
  iapply (wp_st_own c 0 (wbf m c 0)) $$ Ho0; iintro Hs0
  ihave Hs0 := (Entails.of_eq (own_cont m c 0 0 rfl rfl (by decide))) $$ Hs0
  iapply (wp_lane_send m K c _ 0 11 rfl (dev3_eq c) (src := sM 0) (dst := dM 0) (sS := dS (sIx 0)) (rS := dS (rIx 0)) rfl rfl rfl rfl) $$ [Hs0 Hk0 HO]
  · isplitr; · iexact Hrec
    isplitl [Hs0]; · iexact Hs0
    isplitl [Hk0]; · iexact Hk0
    iexact HO
  iintro ⟨Hw0, HO⟩
  iapply (wp_ld_e m c 2) $$ HE; iintro HE
  iapply (wp_ld_own c 2) $$ Ho2; iintro %_ Ho2
  iapply (wp_st_own c 2 (wbf m c 2)) $$ Ho2; iintro Hs1
  ihave Hs1 := (Entails.of_eq (own_cont m c 2 1 rfl rfl (by decide))) $$ Hs1
  iapply (wp_done c)
  iapply Hq
  isplitl [HE]; · iexact HE
  isplitl [HO]; · iexact HO
  isplitl [Hw0]; · iexact Hw0
  iexact Hs1

theorem part3 (v24 : BitVec 32) {Q : FVec F S256x512 .bf16 → sProp 𝕄} :
    iprop(recs m K ∗ ow c (owesR c 11) ∗ hold c (sM 1) (qS 1) (cont m 1 (tgt 1 c)) ∗ lkit 1 c ∗ pt c cc0_stg3_0 (ewst m c) ∗ eAny c 1 ∗ lkit 2 c ∗ eAny c 3)
      ⊢ iprop(((ow c (owesR c 9) ∗ skit 1 c ∗ pt c cc0_stg3_0 (ewst m c) ∗ skit 2 c ∗ eAny c 3) -∗ Q (k0_pay4 (ewLd m c 3)))
          -∗ WP c (k0_part3 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v24) Q) := by
  simp only [k0_part3_eq_skeleton]; unfold k0_part3_skel
  simp only [wL, wR, Prog.lift, Prog.bind_op, Prog.bind_ret, Prog.pure_eq_ret]
  iintro ⟨#Hrec, HO, Hs1, Hk1, HE, Ho1, Hk2, Ho3⟩ Hq
  iapply (wp_lane_send m K c _ 1 10 rfl (dev4_eq c) (src := sM 1) (dst := dM 1) (sS := dS (sIx 1)) (rS := dS (rIx 1)) rfl rfl rfl rfl) $$ [Hs1 Hk1 HO]
  · isplitr; · iexact Hrec
    isplitl [Hs1]; · iexact Hs1
    isplitl [Hk1]; · iexact Hk1
    iexact HO
  iintro ⟨Hw1, HO⟩
  iapply (wp_ld_e m c 1) $$ HE; iintro HE
  iapply (wp_ld_own c 1) $$ Ho1; iintro %_ Ho1
  iapply (wp_st_own c 1 (wbf m c 1)) $$ Ho1; iintro Hs2
  ihave Hs2 := (Entails.of_eq (own_cont m c 1 2 rfl rfl (by decide))) $$ Hs2
  iapply (wp_lane_send m K c _ 2 9 rfl (dev5_eq c) (src := sM 2) (dst := dM 2) (sS := dS (sIx 2)) (rS := dS (rIx 2)) rfl rfl rfl rfl) $$ [Hs2 Hk2 HO]
  · isplitr; · iexact Hrec
    isplitl [Hs2]; · iexact Hs2
    isplitl [Hk2]; · iexact Hk2
    iexact HO
  iintro ⟨Hw2, HO⟩
  iapply (wp_ld_e m c 3) $$ HE; iintro HE
  iapply (wp_ld_own c 3) $$ Ho3; iintro %_ Ho3
  iapply (wp_done c)
  iapply Hq
  isplitl [HO]; · iexact HO
  isplitl [Hw1]; · iexact Hw1
  isplitl [HE]; · iexact HE
  isplitl [Hw2]; · iexact Hw2
  iexact Ho3

theorem part4 (v13 : BitVec 32) (X : Vec F S512x256 .f32) (Rw : Vec F S256x16 .f32) (Ix : Vec F S512x1 .i32) {Q : (Σ' (v95 : FVec F S512x256 .f32) (v109 : IVec S512x1 32), FVec F S512x1 .f32) → sProp 𝕄} :
    iprop(recs m K ∗ eAny c 3 ∗ ow c (owesR c 9) ∗ lkit 3 c ∗ pt c cc0_stg0_0 X ∗ pt c cc0_stg1_0 Rw ∗ pt c cc0_stg2_0 Ix)
      ⊢ iprop(((ow c (owesR c 8) ∗ skit 3 c ∗ pt c cc0_stg0_0 X ∗ pt c cc0_stg1_0 Rw ∗ pt c cc0_stg2_0 Ix) -∗ Q ⟨k0_pay6 X, k0_pay7 Ix, k0_pay8 X Rw Ix⟩)
          -∗ WP c (k0_part4 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 (k0_pay4 (ewLd m c 3))) Q) := by
  simp only [k0_part4_eq_skeleton]; unfold k0_part4_skel
  simp only [Prog.lift, Prog.bind_op, Prog.bind_ret, Prog.pure_eq_ret]
  iintro ⟨#Hrec, Ho3, HO, Hk3, HX, HRw, HIx⟩ Hq
  iapply (wp_st_own c 3 (wbf m c 3)) $$ Ho3; iintro Hs3
  ihave Hs3 := (Entails.of_eq (own_cont m c 3 3 rfl rfl (by decide))) $$ Hs3
  iapply (wp_lane_send m K c _ 3 8 rfl (dev6_eq c) (src := sM 3) (dst := dM 3) (sS := dS (sIx 3)) (rS := dS (rIx 3)) rfl rfl rfl rfl) $$ [Hs3 Hk3 HO]
  · isplitr; · iexact Hrec
    isplitl [Hs3]; · iexact Hs3
    isplitl [Hk3]; · iexact Hk3
    iexact HO
  iintro ⟨Hw3, HO⟩
  iapply (wp_ld_x c X) $$ HX; iintro HX
  iapply (wp_ld_r c Rw) $$ HRw; iintro HRw
  iapply (wp_ld_i c Ix) $$ HIx; iintro HIx
  iapply (wp_done c)
  iapply Hq
  isplitl [HO]; · iexact HO
  isplitl [Hw3]; · iexact Hw3
  isplitl [HX]; · iexact HX
  isplitl [HRw]; · iexact HRw
  iexact HIx

theorem part5 (v2 : BitVec 32) (v95 : FVec F S512x256 .f32) (v109 : IVec S512x1 32) (v117 : FVec F S512x1 .f32) (Sw : Vec F S256x512 .f32) (A : Vec F S512x512 .f32) {Q : FVec F S512x512 .f32 → sProp 𝕄} :
    iprop(pt c cc0_stg4_0 Sw ∗ pt c cc0_stg5_0 A ∗ pt c cc0_stg3_0 (ewst m c))
      ⊢ iprop(((pt c cc0_stg4_0 Sw ∗ pt c cc0_stg5_0 (k0_pay10 v2 v95 v109 v117 (k0_pay9 v95 Sw) (ewLd m c 0)) ∗ pt c cc0_stg3_0 (ewst m c)) -∗ Q (k0_pay11 v2 v95 v109 v117 (k0_pay10 v2 v95 v109 v117 (k0_pay9 v95 Sw) (ewLd m c 0)) (ewLd m c 1)))
          -∗ WP c (k0_part5 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v95 v109 v117) Q) := by
  simp only [k0_part5_eq_skeleton]; unfold k0_part5_skel
  simp only [wL, wR, Prog.lift, Prog.bind_op, Prog.bind_ret, Prog.pure_eq_ret]
  iintro ⟨HSw, HA, HE⟩ Hq
  iapply (wp_ld_w c Sw) $$ HSw; iintro HSw
  iapply (wp_ld_o c _) $$ HA; iintro HA
  iapply (wp_st_o c _ _) $$ HA; iintro HA
  iapply (wp_ld_o c _) $$ HA; iintro HA
  iapply (wp_ld_e m c 0) $$ HE; iintro HE
  iapply (wp_ld_o c _) $$ HA; iintro HA
  iapply (wp_st_o c _ _) $$ HA; iintro HA
  iapply (wp_ld_o c _) $$ HA; iintro HA
  iapply (wp_ld_e m c 1) $$ HE; iintro HE
  iapply (wp_done c)
  iapply Hq
  isplitl [HSw]; · iexact HSw
  isplitl [HA]; · iexact HA
  iexact HE

theorem part6 (v2 : BitVec 32) (v95 : FVec F S512x256 .f32) (v109 : IVec S512x1 32) (v117 : FVec F S512x1 .f32) (v152 A : FVec F S512x512 .f32) {Q : BitVec 32 → sProp 𝕄} :
    iprop(pt c cc0_stg5_0 A ∗ pt c cc0_stg3_0 (ewst m c))
      ⊢ iprop(((pt c cc0_stg5_0 (k0_pay13 v2 v95 v109 v117 (k0_pay12 v2 v95 v109 v117 (v152) (ewLd m c 2)) (ewLd m c 3)) ∗ pt c cc0_stg3_0 (ewst m c)) -∗ Q (Scalar.subi v2 0#32))
          -∗ WP c (k0_part6 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v95 v109 v117 v152) Q) := by
  simp only [k0_part6_eq_skeleton]; unfold k0_part6_skel
  simp only [Prog.lift, Prog.bind_op, Prog.bind_ret, Prog.pure_eq_ret]
  iintro ⟨HA, HE⟩ Hq
  iapply (wp_ld_o c _) $$ HA; iintro HA
  iapply (wp_st_o c _ _) $$ HA; iintro HA
  iapply (wp_ld_o c _) $$ HA; iintro HA
  iapply (wp_ld_e m c 2) $$ HE; iintro HE
  iapply (wp_ld_o c _) $$ HA; iintro HA
  iapply (wp_st_o c _ _) $$ HA; iintro HA
  iapply (wp_ld_o c _) $$ HA; iintro HA
  iapply (wp_ld_e m c 3) $$ HE; iintro HE
  iapply (wp_ld_o c _) $$ HA; iintro HA
  iapply (wp_st_o c _ _) $$ HA; iintro HA
  iapply (wp_done c)
  iapply Hq
  isplitl [HA]; · iexact HA
  iexact HE

theorem part7 (v2 v24 : BitVec 32) {Q : (Σ' (v197 : BitVec 32), BitVec 32) → sProp 𝕄} :
    iprop(recs m K ∗ levAts L lv ∗ ow c (owesR c 8) ∗ rkit 0 c)
      ⊢ iprop(((ow c (owesR c 8) ∗ semVal (rCell 0 c) 0 ∗ hold c (sM 4) (qS 4) (cont m 4 (tgt 4 c)) ∗ hold c (dM 0) fullShare.right (cont m 0 c)) -∗ Q ⟨wL 0 v2, wR 0 v2⟩)
          -∗ WP c (k0_part7 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v24 (Scalar.subi v2 0#32)) Q) := by
  simp only [k0_part7_eq_skeleton]; unfold k0_part7_skel
  simp only [wL, wR, Prog.lift, Prog.bind_op, Prog.bind_ret, Prog.pure_eq_ret]
  iintro ⟨#Hrec, #Hlev, HO, Hr0⟩ Hq
  iapply (wp_lane_recv m K c 0 8 (by decide) (rS := dS (rIx 0)) (src := sM 0) (dst := dM 0) rfl (credit_dM 0)) $$ [Hr0 HO]
  · isplitr; · iexact Hrec
    isplitr; · iexact Hlev
    isplitl [Hr0]; · iexact Hr0
    iexact HO
  iintro ⟨Hd0, Hz0, HO⟩
  ihave Hd0 := (hold_split m c 0 4 rfl rfl (by decide)) $$ Hd0
  icases Hd0 with ⟨Hs4, Hd0⟩
  iapply (wp_done c)
  iapply Hq
  isplitl [HO]; · iexact HO
  isplitl [Hz0]; · iexact Hz0
  isplitl [Hs4]; · iexact Hs4
  iexact Hd0

theorem part8 (v13 v24 : BitVec 32) {Q : PUnit → sProp 𝕄} :
    iprop(recs m K ∗ levAts L lv ∗ ow c (owesR c 8) ∗ hold c (sM 4) (qS 4) (cont m 4 (tgt 4 c)) ∗ lkit 4 c ∗ rkit 1 c)
      ⊢ iprop(((ow c (owesR c 7) ∗ skit 4 c ∗ semVal (rCell 1 c) 0 ∗ hold c (sM 5) (qS 5) (cont m 5 (tgt 5 c)) ∗ hold c (dM 1) fullShare.right (cont m 1 c)) -∗ Q ⟨⟩)
          -∗ WP c (k0_part8 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 v24) Q) := by
  simp only [k0_part8_eq_skeleton]; unfold k0_part8_skel
  simp only [Prog.lift, Prog.bind_op, Prog.bind_ret, Prog.pure_eq_ret]
  iintro ⟨#Hrec, #Hlev, HO, Hs4, Hk4, Hr1⟩ Hq
  iapply (wp_lane_send m K c _ 4 7 rfl (dev7_eq c) (src := sM 4) (dst := dM 4) (sS := dS (sIx 4)) (rS := dS (rIx 4)) rfl rfl rfl rfl) $$ [Hs4 Hk4 HO]
  · isplitr; · iexact Hrec
    isplitl [Hs4]; · iexact Hs4
    isplitl [Hk4]; · iexact Hk4
    iexact HO
  iintro ⟨Hw4, HO⟩
  iapply (wp_lane_recv m K c 1 7 (by decide) (rS := dS (rIx 1)) (src := sM 1) (dst := dM 1) rfl (credit_dM 1)) $$ [Hr1 HO]
  · isplitr; · iexact Hrec
    isplitr; · iexact Hlev
    isplitl [Hr1]; · iexact Hr1
    iexact HO
  iintro ⟨Hd1, Hz1, HO⟩
  ihave Hd1 := (hold_split m c 1 5 rfl rfl (by decide)) $$ Hd1
  icases Hd1 with ⟨Hs5, Hd1⟩
  iapply (wp_done c)
  iapply Hq
  isplitl [HO]; · iexact HO
  isplitl [Hw4]; · iexact Hw4
  isplitl [Hz1]; · iexact Hz1
  isplitl [Hs5]; · iexact Hs5
  iexact Hd1

theorem part9 (v95 : FVec F S512x256 .f32) (v109 : IVec S512x1 32) (v117 : FVec F S512x1 .f32) (v197 v209 : BitVec 32) (A : Vec F S512x512 .f32) {Q : FVec F S512x256 .bf16 → sProp 𝕄} :
    iprop(recs m K ∗ ow c (owesR c 7) ∗ hold c (sM 5) (qS 5) (cont m 5 (tgt 5 c)) ∗ lkit 5 c ∗ pt c cc0_stg5_0 A ∗ hold c (dM 0) fullShare.right (cont m 0 c))
      ⊢ iprop(((ow c (owesR c 6) ∗ skit 5 c ∗ pt c cc0_stg5_0 (k0_pay14 v95 v109 v117 v197 A (cont m 0 c)) ∗ hold c (dM 0) fullShare.right (cont m 0 c)) -∗ Q (k0_pay15 v95 v109 v117 v209))
          -∗ WP c (k0_part9 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v95 v109 v117 v197 v209) Q) := by
  simp only [k0_part9_eq_skeleton]; unfold k0_part9_skel
  simp only [Prog.lift, Prog.bind_op, Prog.bind_ret, Prog.pure_eq_ret]
  iintro ⟨#Hrec, HO, Hs5, Hk5, HA, Hd0⟩ Hq
  iapply (wp_lane_send m K c _ 5 6 rfl (dev8_eq c) (src := sM 5) (dst := dM 5) (sS := dS (sIx 5)) (rS := dS (rIx 5)) rfl rfl rfl rfl) $$ [Hs5 Hk5 HO]
  · isplitr; · iexact Hrec
    isplitl [Hs5]; · iexact Hs5
    isplitl [Hk5]; · iexact Hk5
    iexact HO
  iintro ⟨Hw5, HO⟩
  iapply (wp_ld_o c _) $$ HA; iintro HA
  iapply (wp_ld_slot c (M' := dM 0) rfl fullShare.right (cont m 0 c)) $$ Hd0; iintro Hd0
  iapply (wp_ld_o c _) $$ HA; iintro HA
  iapply (wp_st_o c _ _) $$ HA; iintro HA
  iapply (wp_done c)
  iapply Hq
  isplitl [HO]; · iexact HO
  isplitl [Hw5]; · iexact Hw5
  isplitl [HA]; · iexact HA
  iexact Hd0

theorem part10 (v24 : BitVec 32) (v274 : FVec F S512x256 .bf16) (A : Vec F S512x512 .f32) {Q : PUnit → sProp 𝕄} :
    iprop(recs m K ∗ levAts L lv ∗ pt c cc0_stg5_0 A ∗ hold c (dM 1) fullShare.right (cont m 1 c) ∗ ow c (owesR c 6) ∗ rkit 2 c)
      ⊢ iprop(((pt c cc0_stg5_0 (k0_pay16 v274 A (cont m 1 c)) ∗ hold c (dM 1) fullShare.right (cont m 1 c) ∗ ow c (owesR c 6) ∗ semVal (rCell 2 c) 0 ∗ hold c (sM 6) (qS 6) (cont m 6 (tgt 6 c)) ∗ hold c (dM 2) fullShare.right (cont m 2 c)) -∗ Q ⟨⟩)
          -∗ WP c (k0_part10 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v24 v274) Q) := by
  simp only [k0_part10_eq_skeleton]; unfold k0_part10_skel
  simp only [Prog.lift, Prog.bind_op, Prog.bind_ret, Prog.pure_eq_ret]
  iintro ⟨#Hrec, #Hlev, HA, Hd1, HO, Hr2⟩ Hq
  iapply (wp_ld_o c _) $$ HA; iintro HA
  iapply (wp_ld_slot c (M' := dM 1) rfl fullShare.right (cont m 1 c)) $$ Hd1; iintro Hd1
  iapply (wp_ld_o c _) $$ HA; iintro HA
  iapply (wp_st_o c _ _) $$ HA; iintro HA
  iapply (wp_lane_recv m K c 2 6 (by decide) (rS := dS (rIx 2)) (src := sM 2) (dst := dM 2) rfl (credit_dM 2)) $$ [Hr2 HO]
  · isplitr; · iexact Hrec
    isplitr; · iexact Hlev
    isplitl [Hr2]; · iexact Hr2
    iexact HO
  iintro ⟨Hd2, Hz2, HO⟩
  ihave Hd2 := (hold_split m c 2 6 rfl rfl (by decide)) $$ Hd2
  icases Hd2 with ⟨Hs6, Hd2⟩
  iapply (wp_done c)
  iapply Hq
  isplitl [HA]; · iexact HA
  isplitl [Hd1]; · iexact Hd1
  isplitl [HO]; · iexact HO
  isplitl [Hz2]; · iexact Hz2
  isplitl [Hs6]; · iexact Hs6
  iexact Hd2

theorem part11 (v13 : BitVec 32) (v109 : IVec S512x1 32) (v197 : BitVec 32) {Q : FVec F S512x1 .f32 → sProp 𝕄} :
    iprop(recs m K ∗ levAts L lv ∗ ow c (owesR c 6) ∗ hold c (sM 6) (qS 6) (cont m 6 (tgt 6 c)) ∗ lkit 6 c ∗ rkit 3 c ∗ lkit 7 c)
      ⊢ iprop(((ow c (owesR c 4) ∗ skit 6 c ∗ semVal (rCell 3 c) 0 ∗ hold c (dM 3) fullShare.right (cont m 3 c) ∗ skit 7 c) -∗ Q (k0_pay17 (F := F) v109 v197))
          -∗ WP c (k0_part11 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 v109 v197) Q) := by
  simp only [k0_part11_eq_skeleton]; unfold k0_part11_skel
  simp only [Prog.lift, Prog.bind_op, Prog.bind_ret, Prog.pure_eq_ret]
  iintro ⟨#Hrec, #Hlev, HO, Hs6, Hk6, Hr3, Hk7⟩ Hq
  iapply (wp_lane_send m K c _ 6 5 rfl (dev9_eq c) (src := sM 6) (dst := dM 6) (sS := dS (sIx 6)) (rS := dS (rIx 6)) rfl rfl rfl rfl) $$ [Hs6 Hk6 HO]
  · isplitr; · iexact Hrec
    isplitl [Hs6]; · iexact Hs6
    isplitl [Hk6]; · iexact Hk6
    iexact HO
  iintro ⟨Hw6, HO⟩
  iapply (wp_lane_recv m K c 3 5 (by decide) (rS := dS (rIx 3)) (src := sM 3) (dst := dM 3) rfl (credit_dM 3)) $$ [Hr3 HO]
  · isplitr; · iexact Hrec
    isplitr; · iexact Hlev
    isplitl [Hr3]; · iexact Hr3
    iexact HO
  iintro ⟨Hd3, Hz3, HO⟩
  ihave Hd3 := (hold_split m c 3 7 rfl rfl (by decide)) $$ Hd3
  icases Hd3 with ⟨Hs7, Hd3⟩
  iapply (wp_lane_send m K c _ 7 4 rfl (dev10_eq c) (src := sM 7) (dst := dM 7) (sS := dS (sIx 7)) (rS := dS (rIx 7)) rfl rfl rfl rfl) $$ [Hs7 Hk7 HO]
  · isplitr; · iexact Hrec
    isplitl [Hs7]; · iexact Hs7
    isplitl [Hk7]; · iexact Hk7
    iexact HO
  iintro ⟨Hw7, HO⟩
  iapply (wp_done c)
  iapply Hq
  isplitl [HO]; · iexact HO
  isplitl [Hw6]; · iexact Hw6
  isplitl [Hz3]; · iexact Hz3
  isplitl [Hd3]; · iexact Hd3
  iexact Hw7

theorem part12 (v2 : BitVec 32) (v95 : FVec F S512x256 .f32) (v109 : IVec S512x1 32) (v117 : FVec F S512x1 .f32) (v209 : BitVec 32) (v324 : FVec F S512x1 .f32) (A : Vec F S512x512 .f32) {Q : BitVec 32 → sProp 𝕄} :
    iprop(pt c cc0_stg5_0 A ∗ hold c (dM 2) fullShare.right (cont m 2 c) ∗ hold c (dM 3) fullShare.right (cont m 3 c))
      ⊢ iprop(((pt c cc0_stg5_0 (k0_pay19 v95 v109 v117 v209 (k0_pay18 v95 v117 v324 A (cont m 2 c)) (cont m 3 c)) ∗ hold c (dM 2) fullShare.right (cont m 2 c) ∗ hold c (dM 3) fullShare.right (cont m 3 c)) -∗ Q (Scalar.subi v2 1#32))
          -∗ WP c (k0_part12 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v95 v109 v117 v209 v324) Q) := by
  simp only [k0_part12_eq_skeleton]; unfold k0_part12_skel
  simp only [Prog.lift, Prog.bind_op, Prog.bind_ret, Prog.pure_eq_ret]
  iintro ⟨HA, Hd2, Hd3⟩ Hq
  iapply (wp_ld_o c _) $$ HA; iintro HA
  iapply (wp_ld_slot c (M' := dM 2) rfl fullShare.right (cont m 2 c)) $$ Hd2; iintro Hd2
  iapply (wp_ld_o c _) $$ HA; iintro HA
  iapply (wp_st_o c _ _) $$ HA; iintro HA
  iapply (wp_ld_o c _) $$ HA; iintro HA
  iapply (wp_ld_slot c (M' := dM 3) rfl fullShare.right (cont m 3 c)) $$ Hd3; iintro Hd3
  iapply (wp_ld_o c _) $$ HA; iintro HA
  iapply (wp_st_o c _ _) $$ HA; iintro HA
  iapply (wp_done c)
  iapply Hq
  isplitl [HA]; · iexact HA
  isplitl [Hd2]; · iexact Hd2
  iexact Hd3

end Cert.RingProof
-- ==== Proof.BodyB.lean ====
/-
# The body, part by part

The body is printed in twenty-six parts; here the last fourteen. One theorem a part: what the part needs and what it leaves, over the lanes' kits, the slots held and the
accumulator's contents.
-/
module

public import proofs.«01_k».proof.Proof.BodyA

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

theorem part13 (v2 v24 : BitVec 32) {Q : (Σ' (v367 : BitVec 32), BitVec 32) → sProp 𝕄} :
    Q ⟨wL 1 v2, wR 1 v2⟩ ⊢ WP c (k0_part13 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v24 (Scalar.subi v2 1#32)) Q := by
  simp only [k0_part13_eq_skeleton]; unfold k0_part13_skel
  simp only [wL, wR, Prog.pure_eq_ret]
  iintro Hq
  iapply (wp_done c)
  iexact Hq

theorem part14 (v13 v24 : BitVec 32) {Q : (Σ' (v406 : BitVec 32), BitVec 32) → sProp 𝕄} :
    iprop(recs m K ∗ levAts L lv ∗ ow c (owesR c 4) ∗ rkit 4 c ∗ lkit 8 c ∗ rkit 5 c)
      ⊢ iprop(((ow c (owesR c 3) ∗ semVal (rCell 4 c) 0 ∗ hold c (dM 4) fullShare.right (cont m 4 c) ∗ skit 8 c ∗ semVal (rCell 5 c) 0 ∗ hold c (sM 9) (qS 9) (cont m 9 (tgt 9 c)) ∗ hold c (dM 5) fullShare.right (cont m 5 c)) -∗ Q ⟨Scalar.muli v13 1#32, 0#32⟩)
          -∗ WP c (k0_part14 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 v24) Q) := by
  simp only [k0_part14_eq_skeleton]; unfold k0_part14_skel
  simp only [Prog.lift, Prog.bind_op, Prog.bind_ret, Prog.pure_eq_ret]
  iintro ⟨#Hrec, #Hlev, HO, Hr4, Hk8, Hr5⟩ Hq
  iapply (wp_lane_recv m K c 4 4 (by decide) (rS := dS (rIx 4)) (src := sM 4) (dst := dM 4) rfl (credit_dM 4)) $$ [Hr4 HO]
  · isplitr; · iexact Hrec
    isplitr; · iexact Hlev
    isplitl [Hr4]; · iexact Hr4
    iexact HO
  iintro ⟨Hd4, Hz4, HO⟩
  ihave Hd4 := (hold_split m c 4 8 rfl rfl (by decide)) $$ Hd4
  icases Hd4 with ⟨Hs8, Hd4⟩
  iapply (wp_lane_send m K c _ 8 3 rfl (dev11_eq c) (src := sM 8) (dst := dM 8) (sS := dS (sIx 8)) (rS := dS (rIx 8)) rfl rfl rfl rfl) $$ [Hs8 Hk8 HO]
  · isplitr; · iexact Hrec
    isplitl [Hs8]; · iexact Hs8
    isplitl [Hk8]; · iexact Hk8
    iexact HO
  iintro ⟨Hw8, HO⟩
  iapply (wp_lane_recv m K c 5 3 (by decide) (rS := dS (rIx 5)) (src := sM 5) (dst := dM 5) rfl (credit_dM 5)) $$ [Hr5 HO]
  · isplitr; · iexact Hrec
    isplitr; · iexact Hlev
    isplitl [Hr5]; · iexact Hr5
    iexact HO
  iintro ⟨Hd5, Hz5, HO⟩
  ihave Hd5 := (hold_split m c 5 9 rfl rfl (by decide)) $$ Hd5
  icases Hd5 with ⟨Hs9, Hd5⟩
  iapply (wp_done c)
  iapply Hq
  isplitl [HO]; · iexact HO
  isplitl [Hz4]; · iexact Hz4
  isplitl [Hd4]; · iexact Hd4
  isplitl [Hw8]; · iexact Hw8
  isplitl [Hz5]; · iexact Hz5
  isplitl [Hs9]; · iexact Hs9
  iexact Hd5

theorem part15 (v95 : FVec F S512x256 .f32) (v109 : IVec S512x1 32) (v117 : FVec F S512x1 .f32) (v367 v379 v406 w : BitVec 32) (A : Vec F S512x512 .f32) {Q : FVec F S512x256 .bf16 → sProp 𝕄} :
    iprop(recs m K ∗ ow c (owesR c 3) ∗ hold c (sM 9) (qS 9) (cont m 9 (tgt 9 c)) ∗ lkit 9 c ∗ pt c cc0_stg5_0 A ∗ hold c (dM 4) fullShare.right (cont m 4 c))
      ⊢ iprop(((ow c (owesR c 2) ∗ skit 9 c ∗ pt c cc0_stg5_0 (k0_pay20 v95 v109 v117 v367 A (cont m 4 c)) ∗ hold c (dM 4) fullShare.right (cont m 4 c)) -∗ Q (k0_pay21 v95 v109 v117 v379))
          -∗ WP c (k0_part15 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v95 v109 v117 v367 v379 v406 w) Q) := by
  simp only [k0_part15_eq_skeleton]; unfold k0_part15_skel
  simp only [Prog.lift, Prog.bind_op, Prog.bind_ret, Prog.pure_eq_ret]
  iintro ⟨#Hrec, HO, Hs9, Hk9, HA, Hd4⟩ Hq
  iapply (wp_lane_send m K c _ 9 2 rfl (dev12_eq c) (src := sM 9) (dst := dM 9) (sS := dS (sIx 9)) (rS := dS (rIx 9)) rfl rfl rfl rfl) $$ [Hs9 Hk9 HO]
  · isplitr; · iexact Hrec
    isplitl [Hs9]; · iexact Hs9
    isplitl [Hk9]; · iexact Hk9
    iexact HO
  iintro ⟨Hw9, HO⟩
  iapply (wp_ld_o c _) $$ HA; iintro HA
  iapply (wp_ld_slot c (M' := dM 4) rfl fullShare.right (cont m 4 c)) $$ Hd4; iintro Hd4
  iapply (wp_ld_o c _) $$ HA; iintro HA
  iapply (wp_st_o c _ _) $$ HA; iintro HA
  iapply (wp_done c)
  iapply Hq
  isplitl [HO]; · iexact HO
  isplitl [Hw9]; · iexact Hw9
  isplitl [HA]; · iexact HA
  iexact Hd4

theorem part16 (v24 : BitVec 32) (v444 : FVec F S512x256 .bf16) (A : Vec F S512x512 .f32) {Q : PUnit → sProp 𝕄} :
    iprop(recs m K ∗ levAts L lv ∗ pt c cc0_stg5_0 A ∗ hold c (dM 5) fullShare.right (cont m 5 c) ∗ ow c (owesR c 2) ∗ rkit 6 c)
      ⊢ iprop(((pt c cc0_stg5_0 (k0_pay22 v444 A (cont m 5 c)) ∗ hold c (dM 5) fullShare.right (cont m 5 c) ∗ ow c (owesR c 2) ∗ semVal (rCell 6 c) 0 ∗ hold c (sM 10) (qS 10) (cont m 10 (tgt 10 c)) ∗ hold c (dM 6) fullShare.right (cont m 6 c)) -∗ Q ⟨⟩)
          -∗ WP c (k0_part16 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v24 v444) Q) := by
  simp only [k0_part16_eq_skeleton]; unfold k0_part16_skel
  simp only [Prog.lift, Prog.bind_op, Prog.bind_ret, Prog.pure_eq_ret]
  iintro ⟨#Hrec, #Hlev, HA, Hd5, HO, Hr6⟩ Hq
  iapply (wp_ld_o c _) $$ HA; iintro HA
  iapply (wp_ld_slot c (M' := dM 5) rfl fullShare.right (cont m 5 c)) $$ Hd5; iintro Hd5
  iapply (wp_ld_o c _) $$ HA; iintro HA
  iapply (wp_st_o c _ _) $$ HA; iintro HA
  iapply (wp_lane_recv m K c 6 2 (by decide) (rS := dS (rIx 6)) (src := sM 6) (dst := dM 6) rfl (credit_dM 6)) $$ [Hr6 HO]
  · isplitr; · iexact Hrec
    isplitr; · iexact Hlev
    isplitl [Hr6]; · iexact Hr6
    iexact HO
  iintro ⟨Hd6, Hz6, HO⟩
  ihave Hd6 := (hold_split m c 6 10 rfl rfl (by decide)) $$ Hd6
  icases Hd6 with ⟨Hs10, Hd6⟩
  iapply (wp_done c)
  iapply Hq
  isplitl [HA]; · iexact HA
  isplitl [Hd5]; · iexact Hd5
  isplitl [HO]; · iexact HO
  isplitl [Hz6]; · iexact Hz6
  isplitl [Hs10]; · iexact Hs10
  iexact Hd6

theorem part17 (v13 v367 : BitVec 32) {Q : BitVec 32 → sProp 𝕄} :
    iprop(recs m K ∗ levAts L lv ∗ ow c (owesR c 2) ∗ hold c (sM 10) (qS 10) (cont m 10 (tgt 10 c)) ∗ lkit 10 c ∗ rkit 7 c ∗ lkit 11 c)
      ⊢ iprop(((ow c (owesR c 0) ∗ skit 10 c ∗ semVal (rCell 7 c) 0 ∗ hold c (dM 7) fullShare.right (cont m 7 c) ∗ skit 11 c) -∗ Q (Scalar.addi (Scalar.muli v367 4#32) 1#32))
          -∗ WP c (k0_part17 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 c v13 v367) Q) := by
  simp only [k0_part17_eq_skeleton]; unfold k0_part17_skel
  simp only [Prog.lift, Prog.bind_op, Prog.bind_ret, Prog.pure_eq_ret]
  iintro ⟨#Hrec, #Hlev, HO, Hs10, Hk10, Hr7, Hk11⟩ Hq
  iapply (wp_lane_send m K c _ 10 1 rfl (dev13_eq c) (src := sM 10) (dst := dM 10) (sS := dS (sIx 10)) (rS := dS (rIx 10)) rfl rfl rfl rfl) $$ [Hs10 Hk10 HO]
  · isplitr; · iexact Hrec
    isplitl [Hs10]; · iexact Hs10
    isplitl [Hk10]; · iexact Hk10
    iexact HO
  iintro ⟨Hw10, HO⟩
  iapply (wp_lane_recv m K c 7 1 (by decide) (rS := dS (rIx 7)) (src := sM 7) (dst := dM 7) rfl (credit_dM 7)) $$ [Hr7 HO]
  · isplitr; · iexact Hrec
    isplitr; · iexact Hlev
    isplitl [Hr7]; · iexact Hr7
    iexact HO
  iintro ⟨Hd7, Hz7, HO⟩
  ihave Hd7 := (hold_split m c 7 11 rfl rfl (by decide)) $$ Hd7
  icases Hd7 with ⟨Hs11, Hd7⟩
  iapply (wp_lane_send m K c _ 11 0 rfl (dev14_eq c) (src := sM 11) (dst := dM 11) (sS := dS (sIx 11)) (rS := dS (rIx 11)) rfl rfl rfl rfl) $$ [Hs11 Hk11 HO]
  · isplitr; · iexact Hrec
    isplitl [Hs11]; · iexact Hs11
    isplitl [Hk11]; · iexact Hk11
    iexact HO
  iintro ⟨Hw11, HO⟩
  iapply (wp_done c)
  iapply Hq
  isplitl [HO]; · iexact HO
  isplitl [Hw10]; · iexact Hw10
  isplitl [Hz7]; · iexact Hz7
  isplitl [Hd7]; · iexact Hd7
  iexact Hw11

theorem part18 (v95 : FVec F S512x256 .f32) (v109 : IVec S512x1 32) (v117 : FVec F S512x1 .f32) (v379 v490 : BitVec 32) (A : Vec F S512x512 .f32) {Q : FVec F S512x512 .f32 → sProp 𝕄} :
    iprop(pt c cc0_stg5_0 A ∗ hold c (dM 6) fullShare.right (cont m 6 c) ∗ hold c (dM 7) fullShare.right (cont m 7 c))
      ⊢ iprop(((pt c cc0_stg5_0 (k0_pay23 v95 v109 v117 v490 A (cont m 6 c)) ∗ hold c (dM 6) fullShare.right (cont m 6 c) ∗ hold c (dM 7) fullShare.right (cont m 7 c)) -∗ Q (k0_pay24 v95 v109 v117 v379 (k0_pay23 v95 v109 v117 v490 A (cont m 6 c)) (cont m 7 c)))
          -∗ WP c (k0_part18 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v95 v109 v117 v379 v490) Q) := by
  simp only [k0_part18_eq_skeleton]; unfold k0_part18_skel
  simp only [Prog.lift, Prog.bind_op, Prog.bind_ret, Prog.pure_eq_ret]
  iintro ⟨HA, Hd6, Hd7⟩ Hq
  iapply (wp_ld_o c _) $$ HA; iintro HA
  iapply (wp_ld_slot c (M' := dM 6) rfl fullShare.right (cont m 6 c)) $$ Hd6; iintro Hd6
  iapply (wp_ld_o c _) $$ HA; iintro HA
  iapply (wp_st_o c _ _) $$ HA; iintro HA
  iapply (wp_ld_o c _) $$ HA; iintro HA
  iapply (wp_ld_slot c (M' := dM 7) rfl fullShare.right (cont m 7 c)) $$ Hd7; iintro Hd7
  iapply (wp_done c)
  iapply Hq
  isplitl [HA]; · iexact HA
  isplitl [Hd6]; · iexact Hd6
  iexact Hd7

theorem part19 (v2 v24 : BitVec 32) (v524 A : FVec F S512x512 .f32) {Q : (Σ' (v537 : BitVec 32), BitVec 32) → sProp 𝕄} :
    iprop(pt c cc0_stg5_0 A)
      ⊢ iprop(((pt c cc0_stg5_0 (v524)) -∗ Q ⟨wL 2 v2, wR 2 v2⟩)
          -∗ WP c (k0_part19 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v2 v24 v524) Q) := by
  simp only [k0_part19_eq_skeleton]; unfold k0_part19_skel
  simp only [wL, wR, Prog.lift, Prog.bind_op, Prog.bind_ret, Prog.pure_eq_ret]
  iintro HA Hq
  iapply (wp_ld_o c _) $$ HA; iintro HA
  iapply (wp_st_o c _ _) $$ HA; iintro HA
  iapply (wp_done c)
  iapply Hq
  iexact HA

theorem part20 (v13 : BitVec 32) (v95 : FVec F S512x256 .f32) (v109 : IVec S512x1 32) (v117 : FVec F S512x1 .f32) (v537 : BitVec 32) (A : Vec F S512x512 .f32) {Q : PUnit → sProp 𝕄} :
    iprop(recs m K ∗ levAts L lv ∗ ow c (owesR c 0) ∗ rkit 8 c ∗ rkit 9 c ∗ pt c cc0_stg5_0 A)
      ⊢ iprop(((ow c (owesR c 0) ∗ semVal (rCell 8 c) 0 ∗ hold c (dM 8) fullShare (cont m 8 c) ∗ semVal (rCell 9 c) 0 ∗ hold c (dM 9) fullShare (cont m 9 c) ∗ pt c cc0_stg5_0 (k0_pay25 v95 v109 v117 v537 A (cont m 8 c))) -∗ Q ⟨⟩)
          -∗ WP c (k0_part20 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v13 v95 v109 v117 v537) Q) := by
  simp only [k0_part20_eq_skeleton]; unfold k0_part20_skel
  simp only [Prog.lift, Prog.bind_op, Prog.bind_ret, Prog.pure_eq_ret]
  iintro ⟨#Hrec, #Hlev, HO, Hr8, Hr9, HA⟩ Hq
  iapply (wp_lane_recv m K c 8 0 (by decide) (rS := dS (rIx 8)) (src := sM 8) (dst := dM 8) rfl (credit_dM 8)) $$ [Hr8 HO]
  · isplitr; · iexact Hrec
    isplitr; · iexact Hlev
    isplitl [Hr8]; · iexact Hr8
    iexact HO
  iintro ⟨Hd8, Hz8, HO⟩
  iapply (wp_lane_recv m K c 9 0 (by decide) (rS := dS (rIx 9)) (src := sM 9) (dst := dM 9) rfl (credit_dM 9)) $$ [Hr9 HO]
  · isplitr; · iexact Hrec
    isplitr; · iexact Hlev
    isplitl [Hr9]; · iexact Hr9
    iexact HO
  iintro ⟨Hd9, Hz9, HO⟩
  iapply (wp_ld_o c _) $$ HA; iintro HA
  iapply (wp_ld_slot c (M' := dM 8) rfl fullShare (cont m 8 c)) $$ Hd8; iintro Hd8
  iapply (wp_ld_o c _) $$ HA; iintro HA
  iapply (wp_st_o c _ _) $$ HA; iintro HA
  iapply (wp_done c)
  iapply Hq
  isplitl [HO]; · iexact HO
  isplitl [Hz8]; · iexact Hz8
  isplitl [Hd8]; · iexact Hd8
  isplitl [Hz9]; · iexact Hz9
  isplitl [Hd9]; · iexact Hd9
  iexact HA

theorem part21 (v24 : BitVec 32) (v95 : FVec F S512x256 .f32) (v109 : IVec S512x1 32) (v117 : FVec F S512x1 .f32) (v549 : BitVec 32) (A : Vec F S512x512 .f32) {Q : PUnit → sProp 𝕄} :
    iprop(recs m K ∗ levAts L lv ∗ pt c cc0_stg5_0 A ∗ hold c (dM 9) fullShare (cont m 9 c) ∗ ow c (owesR c 0) ∗ rkit 10 c)
      ⊢ iprop(((pt c cc0_stg5_0 (k0_pay26 v95 v109 v117 v549 A (cont m 9 c)) ∗ hold c (dM 9) fullShare (cont m 9 c) ∗ ow c (owesR c 0) ∗ semVal (rCell 10 c) 0 ∗ hold c (dM 10) fullShare (cont m 10 c)) -∗ Q ⟨⟩)
          -∗ WP c (k0_part21 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v24 v95 v109 v117 v549) Q) := by
  simp only [k0_part21_eq_skeleton]; unfold k0_part21_skel
  simp only [Prog.lift, Prog.bind_op, Prog.bind_ret, Prog.pure_eq_ret]
  iintro ⟨#Hrec, #Hlev, HA, Hd9, HO, Hr10⟩ Hq
  iapply (wp_ld_o c _) $$ HA; iintro HA
  iapply (wp_ld_slot c (M' := dM 9) rfl fullShare (cont m 9 c)) $$ Hd9; iintro Hd9
  iapply (wp_ld_o c _) $$ HA; iintro HA
  iapply (wp_st_o c _ _) $$ HA; iintro HA
  iapply (wp_lane_recv m K c 10 0 (by decide) (rS := dS (rIx 10)) (src := sM 10) (dst := dM 10) rfl (credit_dM 10)) $$ [Hr10 HO]
  · isplitr; · iexact Hrec
    isplitr; · iexact Hlev
    isplitl [Hr10]; · iexact Hr10
    iexact HO
  iintro ⟨Hd10, Hz10, HO⟩
  iapply (wp_done c)
  iapply Hq
  isplitl [HA]; · iexact HA
  isplitl [Hd9]; · iexact Hd9
  isplitl [HO]; · iexact HO
  isplitl [Hz10]; · iexact Hz10
  iexact Hd10

theorem part22 (v13 : BitVec 32) (v95 : FVec F S512x256 .f32) (v109 : IVec S512x1 32) (v117 : FVec F S512x1 .f32) (v537 v549 : BitVec 32) (A : Vec F S512x512 .f32) {Q : IVec S512x1 1 → sProp 𝕄} :
    iprop(recs m K ∗ levAts L lv ∗ ow c (owesR c 0) ∗ rkit 11 c ∗ pt c cc0_stg5_0 A ∗ hold c (dM 10) fullShare (cont m 10 c))
      ⊢ iprop(((ow c (owesR c 0) ∗ semVal (rCell 11 c) 0 ∗ hold c (dM 11) fullShare (cont m 11 c) ∗ pt c cc0_stg5_0 (k0_pay27 v95 v109 v117 v537 A (cont m 10 c)) ∗ hold c (dM 10) fullShare (cont m 10 c)) -∗ Q (k0_pay28 v109 v549))
          -∗ WP c (k0_part22 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v13 v95 v109 v117 v537 v549) Q) := by
  simp only [k0_part22_eq_skeleton]; unfold k0_part22_skel
  simp only [Prog.lift, Prog.bind_op, Prog.bind_ret, Prog.pure_eq_ret]
  iintro ⟨#Hrec, #Hlev, HO, Hr11, HA, Hd10⟩ Hq
  iapply (wp_lane_recv m K c 11 0 (by decide) (rS := dS (rIx 11)) (src := sM 11) (dst := dM 11) rfl (credit_dM 11)) $$ [Hr11 HO]
  · isplitr; · iexact Hrec
    isplitr; · iexact Hlev
    isplitl [Hr11]; · iexact Hr11
    iexact HO
  iintro ⟨Hd11, Hz11, HO⟩
  iapply (wp_ld_o c _) $$ HA; iintro HA
  iapply (wp_ld_slot c (M' := dM 10) rfl fullShare (cont m 10 c)) $$ Hd10; iintro Hd10
  iapply (wp_ld_o c _) $$ HA; iintro HA
  iapply (wp_st_o c _ _) $$ HA; iintro HA
  iapply (wp_done c)
  iapply Hq
  isplitl [HO]; · iexact HO
  isplitl [Hz11]; · iexact Hz11
  isplitl [Hd11]; · iexact Hd11
  isplitl [HA]; · iexact HA
  iexact Hd10

theorem part23 (v95 : FVec F S512x256 .f32) (v117 : FVec F S512x1 .f32) (v641 : IVec S512x1 1) (A : Vec F S512x512 .f32) {Q : PUnit → sProp 𝕄} :
    iprop(recs m K ∗ pt c cc0_stg5_0 A ∗ hold c (dM 11) fullShare (cont m 11 c) ∗ ow c 0 ∗ skit 0 c)
      ⊢ iprop(((pt c cc0_stg5_0 (k0_pay29 v95 v117 v641 A (cont m 11 c)) ∗ hold c (dM 11) fullShare (cont m 11 c) ∗ ow c 0 ∗ hold c (sM 0) (qS 0) (cont m 0 (tgt 0 c)) ∗ semVal (sCell 0 c) 0) -∗ Q ⟨⟩)
          -∗ WP c (k0_part23 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 v95 v117 v641) Q) := by
  simp only [k0_part23_eq_skeleton]; unfold k0_part23_skel
  simp only [Prog.lift, Prog.bind_op, Prog.bind_ret, Prog.pure_eq_ret]
  iintro ⟨#Hrec, HA, Hd11, HO, Hw0⟩ Hq
  iapply (wp_ld_o c _) $$ HA; iintro HA
  iapply (wp_ld_slot c (M' := dM 11) rfl fullShare (cont m 11 c)) $$ Hd11; iintro Hd11
  iapply (wp_ld_o c _) $$ HA; iintro HA
  iapply (wp_st_o c _ _) $$ HA; iintro HA
  iapply (wp_lane_done m K c 0 (sS := dS (sIx 0)) (src := dM 0) (dst := sM 0) rfl (credit_sM 0)) $$ [Hw0 HO]
  · isplitr; · iexact Hrec
    isplitl [Hw0]; · iexact Hw0
    iexact HO
  iintro ⟨Hs0, Hy0, HO⟩
  iapply (wp_done c)
  iapply Hq
  isplitl [HA]; · iexact HA
  isplitl [Hd11]; · iexact Hd11
  isplitl [HO]; · iexact HO
  isplitl [Hs0]; · iexact Hs0
  iexact Hy0

theorem part24 {Q : PUnit → sProp 𝕄} :
    iprop(recs m K ∗ ow c 0 ∗ skit 2 c ∗ skit 4 c ∗ skit 6 c)
      ⊢ iprop(((ow c 0 ∗ hold c (sM 2) (qS 2) (cont m 2 (tgt 2 c)) ∗ semVal (sCell 2 c) 0 ∗ hold c (sM 4) (qS 4) (cont m 4 (tgt 4 c)) ∗ semVal (sCell 4 c) 0 ∗ hold c (sM 6) (qS 6) (cont m 6 (tgt 6 c)) ∗ semVal (sCell 6 c) 0) -∗ Q ⟨⟩)
          -∗ WP c (k0_part24 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part24_eq_skeleton]; unfold k0_part24_skel
  simp only [Prog.lift, Prog.bind_op, Prog.bind_ret, Prog.pure_eq_ret]
  iintro ⟨#Hrec, HO, Hw2, Hw4, Hw6⟩ Hq
  iapply (wp_lane_done m K c 2 (sS := dS (sIx 2)) (src := dM 2) (dst := sM 2) rfl (credit_sM 2)) $$ [Hw2 HO]
  · isplitr; · iexact Hrec
    isplitl [Hw2]; · iexact Hw2
    iexact HO
  iintro ⟨Hs2, Hy2, HO⟩
  iapply (wp_lane_done m K c 4 (sS := dS (sIx 4)) (src := dM 4) (dst := sM 4) rfl (credit_sM 4)) $$ [Hw4 HO]
  · isplitr; · iexact Hrec
    isplitl [Hw4]; · iexact Hw4
    iexact HO
  iintro ⟨Hs4, Hy4, HO⟩
  iapply (wp_lane_done m K c 6 (sS := dS (sIx 6)) (src := dM 6) (dst := sM 6) rfl (credit_sM 6)) $$ [Hw6 HO]
  · isplitr; · iexact Hrec
    isplitl [Hw6]; · iexact Hw6
    iexact HO
  iintro ⟨Hs6, Hy6, HO⟩
  iapply (wp_done c)
  iapply Hq
  isplitl [HO]; · iexact HO
  isplitl [Hs2]; · iexact Hs2
  isplitl [Hy2]; · iexact Hy2
  isplitl [Hs4]; · iexact Hs4
  isplitl [Hy4]; · iexact Hy4
  isplitl [Hs6]; · iexact Hs6
  iexact Hy6

theorem part25 {Q : PUnit → sProp 𝕄} :
    iprop(recs m K ∗ ow c 0 ∗ skit 8 c ∗ skit 10 c ∗ skit 1 c)
      ⊢ iprop(((ow c 0 ∗ hold c (sM 8) (qS 8) (cont m 8 (tgt 8 c)) ∗ semVal (sCell 8 c) 0 ∗ hold c (sM 10) (qS 10) (cont m 10 (tgt 10 c)) ∗ semVal (sCell 10 c) 0 ∗ hold c (sM 1) (qS 1) (cont m 1 (tgt 1 c)) ∗ semVal (sCell 1 c) 0) -∗ Q ⟨⟩)
          -∗ WP c (k0_part25 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part25_eq_skeleton]; unfold k0_part25_skel
  simp only [Prog.lift, Prog.bind_op, Prog.bind_ret, Prog.pure_eq_ret]
  iintro ⟨#Hrec, HO, Hw8, Hw10, Hw1⟩ Hq
  iapply (wp_lane_done m K c 8 (sS := dS (sIx 8)) (src := dM 8) (dst := sM 8) rfl (credit_sM 8)) $$ [Hw8 HO]
  · isplitr; · iexact Hrec
    isplitl [Hw8]; · iexact Hw8
    iexact HO
  iintro ⟨Hs8, Hy8, HO⟩
  iapply (wp_lane_done m K c 10 (sS := dS (sIx 10)) (src := dM 10) (dst := sM 10) rfl (credit_sM 10)) $$ [Hw10 HO]
  · isplitr; · iexact Hrec
    isplitl [Hw10]; · iexact Hw10
    iexact HO
  iintro ⟨Hs10, Hy10, HO⟩
  iapply (wp_lane_done m K c 1 (sS := dS (sIx 1)) (src := dM 1) (dst := sM 1) rfl (credit_sM 1)) $$ [Hw1 HO]
  · isplitr; · iexact Hrec
    isplitl [Hw1]; · iexact Hw1
    iexact HO
  iintro ⟨Hs1, Hy1, HO⟩
  iapply (wp_done c)
  iapply Hq
  isplitl [HO]; · iexact HO
  isplitl [Hs8]; · iexact Hs8
  isplitl [Hy8]; · iexact Hy8
  isplitl [Hs10]; · iexact Hs10
  isplitl [Hy10]; · iexact Hy10
  isplitl [Hs1]; · iexact Hs1
  iexact Hy1

theorem part26 {Q : PUnit → sProp 𝕄} :
    iprop(recs m K ∗ ow c 0 ∗ skit 3 c ∗ skit 5 c ∗ skit 7 c)
      ⊢ iprop(((ow c 0 ∗ hold c (sM 3) (qS 3) (cont m 3 (tgt 3 c)) ∗ semVal (sCell 3 c) 0 ∗ hold c (sM 5) (qS 5) (cont m 5 (tgt 5 c)) ∗ semVal (sCell 5 c) 0 ∗ hold c (sM 7) (qS 7) (cont m 7 (tgt 7 c)) ∗ semVal (sCell 7 c) 0) -∗ Q ⟨⟩)
          -∗ WP c (k0_part26 (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [k0_part26_eq_skeleton]; unfold k0_part26_skel
  simp only [Prog.lift, Prog.bind_op, Prog.bind_ret, Prog.pure_eq_ret]
  iintro ⟨#Hrec, HO, Hw3, Hw5, Hw7⟩ Hq
  iapply (wp_lane_done m K c 3 (sS := dS (sIx 3)) (src := dM 3) (dst := sM 3) rfl (credit_sM 3)) $$ [Hw3 HO]
  · isplitr; · iexact Hrec
    isplitl [Hw3]; · iexact Hw3
    iexact HO
  iintro ⟨Hs3, Hy3, HO⟩
  iapply (wp_lane_done m K c 5 (sS := dS (sIx 5)) (src := dM 5) (dst := sM 5) rfl (credit_sM 5)) $$ [Hw5 HO]
  · isplitr; · iexact Hrec
    isplitl [Hw5]; · iexact Hw5
    iexact HO
  iintro ⟨Hs5, Hy5, HO⟩
  iapply (wp_lane_done m K c 7 (sS := dS (sIx 7)) (src := dM 7) (dst := sM 7) rfl (credit_sM 7)) $$ [Hw7 HO]
  · isplitr; · iexact Hrec
    isplitl [Hw7]; · iexact Hw7
    iexact HO
  iintro ⟨Hs7, Hy7, HO⟩
  iapply (wp_done c)
  iapply Hq
  isplitl [HO]; · iexact HO
  isplitl [Hs3]; · iexact Hs3
  isplitl [Hy3]; · iexact Hy3
  isplitl [Hs5]; · iexact Hs5
  isplitl [Hy5]; · iexact Hy5
  isplitl [Hs7]; · iexact Hs7
  iexact Hy7

end Cert.RingProof
-- ==== Proof.Body.lean ====
/-
# The body

The twenty-six parts put together: from the kits of all lanes, the send and landing slots and the staged blocks, to the cells closed, the
slots back and the accumulator at its final contents.
-/
module

public import proofs.«01_k».proof.Proof.BodyB

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 25 → ℕ) (c : Dev nD)

/-- One stretch, then the rest. -/
theorem wp_part {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  show _ ⊢ wp frame (wpE (defs₀ (F := F)) 𝒱₀ (c : Thread nD τ) none) Set.univ (p >>= k) Q
  rw [wp_bind]

/-! ## The accumulator, stretch by stretch -/

section Acc
variable (X : Vec F S512x256 .f32) (Rw : Vec F S256x16 .f32) (Ix : Vec F S512x1 .i32) (Sw : Vec F S256x512 .f32)

def a0 : Vec F S512x512 .f32 := k0_pay10 (w2 c) (k0_pay6 X) (k0_pay7 Ix) (k0_pay8 X Rw Ix) (k0_pay9 (k0_pay6 X) Sw) (ewLd m c 0)
def a1 : Vec F S512x512 .f32 := k0_pay11 (w2 c) (k0_pay6 X) (k0_pay7 Ix) (k0_pay8 X Rw Ix) (a0 m c X Rw Ix Sw) (ewLd m c 1)
def a3 : Vec F S512x512 .f32 := k0_pay13 (w2 c) (k0_pay6 X) (k0_pay7 Ix) (k0_pay8 X Rw Ix)
  (k0_pay12 (w2 c) (k0_pay6 X) (k0_pay7 Ix) (k0_pay8 X Rw Ix) (a1 m c X Rw Ix Sw) (ewLd m c 2)) (ewLd m c 3)
def b0 : Vec F S512x512 .f32 := k0_pay14 (k0_pay6 X) (k0_pay7 Ix) (k0_pay8 X Rw Ix) (wL 0 (w2 c)) (a3 m c X Rw Ix Sw) (cont m 0 c)
def b1 : Vec F S512x512 .f32 := k0_pay16 (k0_pay15 (k0_pay6 X) (k0_pay7 Ix) (k0_pay8 X Rw Ix) (wR 0 (w2 c))) (b0 m c X Rw Ix Sw) (cont m 1 c)
def b2 : Vec F S512x512 .f32 := k0_pay18 (k0_pay6 X) (k0_pay8 X Rw Ix) (k0_pay17 (k0_pay7 Ix) (wL 0 (w2 c))) (b1 m c X Rw Ix Sw) (cont m 2 c)
def b3 : Vec F S512x512 .f32 := k0_pay19 (k0_pay6 X) (k0_pay7 Ix) (k0_pay8 X Rw Ix) (wR 0 (w2 c)) (b2 m c X Rw Ix Sw) (cont m 3 c)
def b4 : Vec F S512x512 .f32 := k0_pay20 (k0_pay6 X) (k0_pay7 Ix) (k0_pay8 X Rw Ix) (wL 1 (w2 c)) (b3 m c X Rw Ix Sw) (cont m 4 c)
def b5 : Vec F S512x512 .f32 := k0_pay22 (k0_pay21 (k0_pay6 X) (k0_pay7 Ix) (k0_pay8 X Rw Ix) (wR 1 (w2 c))) (b4 m c X Rw Ix Sw) (cont m 5 c)
def b6 : Vec F S512x512 .f32 := k0_pay23 (k0_pay6 X) (k0_pay7 Ix) (k0_pay8 X Rw Ix) (Scalar.addi (Scalar.muli (wL 1 (w2 c)) 4#32) 1#32) (b5 m c X Rw Ix Sw) (cont m 6 c)
def b7 : Vec F S512x512 .f32 := k0_pay24 (k0_pay6 X) (k0_pay7 Ix) (k0_pay8 X Rw Ix) (wR 1 (w2 c)) (b6 m c X Rw Ix Sw) (cont m 7 c)
def b8 : Vec F S512x512 .f32 := k0_pay25 (k0_pay6 X) (k0_pay7 Ix) (k0_pay8 X Rw Ix) (wL 2 (w2 c)) (b7 m c X Rw Ix Sw) (cont m 8 c)
def b9 : Vec F S512x512 .f32 := k0_pay26 (k0_pay6 X) (k0_pay7 Ix) (k0_pay8 X Rw Ix) (wR 2 (w2 c)) (b8 m c X Rw Ix Sw) (cont m 9 c)
def b10 : Vec F S512x512 .f32 := k0_pay27 (k0_pay6 X) (k0_pay7 Ix) (k0_pay8 X Rw Ix) (wL 2 (w2 c)) (b9 m c X Rw Ix Sw) (cont m 10 c)
def b11 : Vec F S512x512 .f32 := k0_pay29 (k0_pay6 X) (k0_pay8 X Rw Ix) (k0_pay28 (k0_pay7 Ix) (wR 2 (w2 c))) (b10 m c X Rw Ix Sw) (cont m 11 c)

end Acc

/-! ## The kits of all lanes -/

/-- What a device holds for lane `i` at the start: the tokens of its own send, and what it awaits the two ends with. -/
def lane0 (i : Fin 12) (c : Dev nD) : sProp 𝕄 := iprop(ltok i c ∗ atPos ER (sCell i c) 0 ∅ 0 ∗ rkit i c)
/-- What it holds at the end: both counters at zero. -/
def lane1 (i : Fin 12) (c : Dev nD) : sProp 𝕄 := iprop(semVal (sCell i c) 0 ∗ semVal (rCell i c) 0)

theorem bigSep12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) := by
  rw [bigSep_univ_eq_bigSepL [0, 1, 2, 3, 4, 5, 6, 7, 8, 9, 10, 11] (by decide) (by decide)]
  simp only [bigSepL_cons_cons, bigSepL_singleton]
  rfl

theorem bigSep4 (Φ : Fin 4 → sProp 𝕄) : bigSep Finset.univ Φ = iprop(Φ 0 ∗ Φ 1 ∗ Φ 2 ∗ Φ 3) := by
  rw [bigSep_univ_eq_bigSepL [0, 1, 2, 3] (by decide) (by decide)]
  simp only [bigSepL_cons_cons, bigSepL_singleton]
  rfl

/-- The two halves of a landing slot make the slot again. -/
theorem hold_join (i j : Fin 12) (hM : sM j = dM i) (hq : qS j = fullShare.left) :
    iprop(hold c (sM j) (qS j) (cont m j (tgt j c)) ∗ hold c (dM i) fullShare.right (cont m i c)) ⊢ land (F := F) i c := by
  rw [hM, hq]
  unfold land hold owns
  iintro ⟨⟨%f, %hf, H1⟩, ⟨%g, %hg, H2⟩⟩
  ihave %hag := pointsTo_agree $$ [H1 H2]
  · isplitl [H1] <;> iassumption
  ihave H1 := (Entails.of_eq (pointsTo_congr (g := g) fun i hi => (hag i (Finset.mem_inter.mpr ⟨hi, hi⟩)).1)) $$ H1
  ihave H := (pointsTo_share (PosShare.mem_left_op_right fullShare)).2 $$ [H1 H2]
  · isplitl [H1] <;> iassumption
  iexists _; iexists g; isplitr
  · ipureintro; exact hg
  iexact H

/-- A send slot, back after its lane. -/
theorem own_back (j : Fin 4) (i : Fin 12) (hM : eM j = sM i) (hq : qS i = fullShare) :
    (hold c (sM i) (qS i) (cont m i (tgt i c)) : sProp 𝕄) ⊢ eAny c j := by
  rw [← hM, hq]; unfold eAny; iintro H; iexists _; iexact H

set_option maxHeartbeats 2000000 in
/-- The body on any device. -/
theorem run_body (X : Vec F S512x256 .f32) (Rw : Vec F S256x16 .f32) (Ix : Vec F S512x1 .i32) (Sw : Vec F S256x512 .f32) (A : Vec F S512x512 .f32)
    {Q : PUnit → sProp 𝕄} :
    iprop(recs m K ∗ levAts L lv ∗ ow c (O₀ c) ∗ dutyTok ER (barCell (prv c)) 0 true ∗ dutyTok ER (barCell (nxt c)) 0 false
        ∗ cred (tallyAt (barCell c) () 2) ∗ atPos ER (barCell c) 0 ∅ 0
        ∗ bigSep Finset.univ (fun i => lane0 i c) ∗ bigSep Finset.univ (fun i => land i c) ∗ bigSep Finset.univ (fun k => eAny c k)
        ∗ pt c cc0_stg0_0 X ∗ pt c cc0_stg1_0 Rw ∗ pt c cc0_stg2_0 Ix ∗ pt c cc0_stg3_0 (ewst m c) ∗ pt c cc0_stg4_0 Sw ∗ pt c cc0_stg5_0 A)
      ⊢ iprop(((ow c 0 ∗ semVal (barCell c) 0
        ∗ bigSep Finset.univ (fun i => lane1 i c) ∗ bigSep Finset.univ (fun i => land i c) ∗ bigSep Finset.univ (fun k => eAny c k)
        ∗ pt c cc0_stg0_0 X ∗ pt c cc0_stg1_0 Rw ∗ pt c cc0_stg2_0 Ix ∗ pt c cc0_stg3_0 (ewst m c) ∗ pt c cc0_stg4_0 Sw
        ∗ pt c cc0_stg5_0 (b11 m c X Rw Ix Sw)) -∗ Q ⟨⟩)
          -∗ WP c (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) Q) := by
  simp only [cc0_body_eq_skeleton]; unfold cc0_body_skel
  rw [bigSep12 (fun i => lane0 i c), bigSep12 (fun i => land i c), bigSep12 (fun i => lane1 i c), bigSep4 (fun k => eAny c k)]
  unfold lane0
  iintro ⟨#Hrec, #Hlev, HO, HtP, HtN, HcB, HatB, ⟨⟨Ht0, Hat0, Hr0⟩, ⟨Ht1, Hat1, Hr1⟩, ⟨Ht2, Hat2, Hr2⟩, ⟨Ht3, Hat3, Hr3⟩, ⟨Ht4, Hat4, Hr4⟩, ⟨Ht5, Hat5, Hr5⟩, ⟨Ht6, Hat6, Hr6⟩, ⟨Ht7, Hat7, Hr7⟩, ⟨Ht8, Hat8, Hr8⟩, ⟨Ht9, Hat9, Hr9⟩, ⟨Ht10, Hat10, Hr10⟩, ⟨Ht11, Hat11, Hr11⟩⟩, ⟨Hl0, Hl1, Hl2, Hl3, Hl4, Hl5, Hl6, Hl7, Hl8, Hl9, Hl10, Hl11⟩, ⟨Ho0, Ho1, Ho2, Ho3⟩, HX, HRw, HIx, HE, HSw, HA⟩ Hq
  iapply (wp_part c)
  iapply (part1 m K c) $$ [HO HtP HtN HcB HatB Hl0 Hl1 Hl2 Hl3 Hl4 Hl5 Hl6 Hl7 Hl8 Hl9 Hl10 Hl11]
  · isplitr; · iexact Hrec
    isplitr; · iexact Hlev
    isplitl [HO]; · iexact HO
    isplitl [HtP]; · iexact HtP
    isplitl [HtN]; · iexact HtN
    isplitl [HcB]; · iexact HcB
    isplitl [HatB]; · iexact HatB
    isplitl [Hl0 Hl2 Hl4 Hl6 Hl8 Hl10]
    · unfold payT; rw [nxt_prv]
      isplitl [Hl0]; · iexact Hl0
      isplitl [Hl2]; · iexact Hl2
      isplitl [Hl4]; · iexact Hl4
      isplitl [Hl6]; · iexact Hl6
      isplitl [Hl8]; · iexact Hl8
      iexact Hl10
    · unfold payF; rw [prv_nxt]
      isplitl [Hl1]; · iexact Hl1
      isplitl [Hl3]; · iexact Hl3
      isplitl [Hl5]; · iexact Hl5
      isplitl [Hl7]; · iexact Hl7
      isplitl [Hl9]; · iexact Hl9
      iexact Hl11
  unfold payF payT
  iintro %v13 %v24 ⟨⟨Hl1, Hl3, Hl5, Hl7, Hl9, Hl11⟩, ⟨Hl0, Hl2, Hl4, Hl6, Hl8, Hl10⟩, HzB, HO⟩
  ihave Hk0 : lkit 0 c $$ [Ht0 Hat0 Hl0]
  · unfold lkit
    isplitl [Ht0]; · iexact Ht0
    isplitl [Hat0]; · iexact Hat0
    iexact Hl0
  ihave Hk1 : lkit 1 c $$ [Ht1 Hat1 Hl1]
  · unfold lkit
    isplitl [Ht1]; · iexact Ht1
    isplitl [Hat1]; · iexact Hat1
    iexact Hl1
  ihave Hk2 : lkit 2 c $$ [Ht2 Hat2 Hl2]
  · unfold lkit
    isplitl [Ht2]; · iexact Ht2
    isplitl [Hat2]; · iexact Hat2
    iexact Hl2
  ihave Hk3 : lkit 3 c $$ [Ht3 Hat3 Hl3]
  · unfold lkit
    isplitl [Ht3]; · iexact Ht3
    isplitl [Hat3]; · iexact Hat3
    iexact Hl3
  ihave Hk4 : lkit 4 c $$ [Ht4 Hat4 Hl4]
  · unfold lkit
    isplitl [Ht4]; · iexact Ht4
    isplitl [Hat4]; · iexact Hat4
    iexact Hl4
  ihave Hk5 : lkit 5 c $$ [Ht5 Hat5 Hl5]
  · unfold lkit
    isplitl [Ht5]; · iexact Ht5
    isplitl [Hat5]; · iexact Hat5
    iexact Hl5
  ihave Hk6 : lkit 6 c $$ [Ht6 Hat6 Hl6]
  · unfold lkit
    isplitl [Ht6]; · iexact Ht6
    isplitl [Hat6]; · iexact Hat6
    iexact Hl6
  ihave Hk7 : lkit 7 c $$ [Ht7 Hat7 Hl7]
  · unfold lkit
    isplitl [Ht7]; · iexact Ht7
    isplitl [Hat7]; · iexact Hat7
    iexact Hl7
  ihave Hk8 : lkit 8 c $$ [Ht8 Hat8 Hl8]
  · unfold lkit
    isplitl [Ht8]; · iexact Ht8
    isplitl [Hat8]; · iexact Hat8
    iexact Hl8
  ihave Hk9 : lkit 9 c $$ [Ht9 Hat9 Hl9]
  · unfold lkit
    isplitl [Ht9]; · iexact Ht9
    isplitl [Hat9]; · iexact Hat9
    iexact Hl9
  ihave Hk10 : lkit 10 c $$ [Ht10 Hat10 Hl10]
  · unfold lkit
    isplitl [Ht10]; · iexact Ht10
    isplitl [Hat10]; · iexact Hat10
    iexact Hl10
  ihave Hk11 : lkit 11 c $$ [Ht11 Hat11 Hl11]
  · unfold lkit
    isplitl [Ht11]; · iexact Ht11
    isplitl [Hat11]; · iexact Hat11
    iexact Hl11
  iapply (wp_part c)
  iapply (part2 (c := c) (m := m) (K := K)) $$ [HE Ho0 HO Hk0 Ho2]
  · isplitr; · iexact Hrec
    isplitl [HE]; · iexact HE
    isplitl [Ho0]; · iexact Ho0
    isplitl [HO]; · iexact HO
    isplitl [Hk0]; · iexact Hk0
    iexact Ho2
  iintro ⟨HE, HO, Hw0, Hs1⟩
  iapply (wp_part c)
  iapply (part3 (c := c) (m := m) (K := K)) $$ [HO Hs1 Hk1 HE Ho1 Hk2 Ho3]
  · isplitr; · iexact Hrec
    isplitl [HO]; · iexact HO
    isplitl [Hs1]; · iexact Hs1
    isplitl [Hk1]; · iexact Hk1
    isplitl [HE]; · iexact HE
    isplitl [Ho1]; · iexact Ho1
    isplitl [Hk2]; · iexact Hk2
    iexact Ho3
  iintro ⟨HO, Hw1, HE, Hw2, Ho3⟩
  iapply (wp_part c)
  iapply (part4 (c := c) (X := X) (Rw := Rw) (Ix := Ix) (m := m) (K := K)) $$ [Ho3 HO Hk3 HX HRw HIx]
  · isplitr; · iexact Hrec
    isplitl [Ho3]; · iexact Ho3
    isplitl [HO]; · iexact HO
    isplitl [Hk3]; · iexact Hk3
    isplitl [HX]; · iexact HX
    isplitl [HRw]; · iexact HRw
    iexact HIx
  iintro ⟨HO, Hw3, HX, HRw, HIx⟩
  iapply (wp_part c)
  iapply (part5 (c := c) (A := A) (Sw := Sw) (m := m)) $$ [HSw HA HE]
  · isplitl [HSw]; · iexact HSw
    isplitl [HA]; · iexact HA
    iexact HE
  iintro ⟨HSw, HA, HE⟩
  iapply (wp_part c)
  iapply (part6 (c := c) (A := (a0 m c X Rw Ix Sw)) (m := m)) $$ [HA HE]
  · isplitl [HA]; · iexact HA
    iexact HE
  iintro ⟨HA, HE⟩
  iapply (wp_part c)
  iapply (part7 (c := c) (m := m) (K := K)) $$ [HO Hr0]
  · isplitr; · iexact Hrec
    isplitr; · iexact Hlev
    isplitl [HO]; · iexact HO
    iexact Hr0
  iintro ⟨HO, Hz0, Hs4, Hd0⟩
  iapply (wp_part c)
  iapply (part8 (c := c) (m := m) (K := K)) $$ [HO Hs4 Hk4 Hr1]
  · isplitr; · iexact Hrec
    isplitr; · iexact Hlev
    isplitl [HO]; · iexact HO
    isplitl [Hs4]; · iexact Hs4
    isplitl [Hk4]; · iexact Hk4
    iexact Hr1
  iintro ⟨HO, Hw4, Hz1, Hs5, Hd1⟩
  iapply (wp_part c)
  iapply (part9 (c := c) (A := (a3 m c X Rw Ix Sw)) (m := m) (K := K)) $$ [HO Hs5 Hk5 HA Hd0]
  · isplitr; · iexact Hrec
    isplitl [HO]; · iexact HO
    isplitl [Hs5]; · iexact Hs5
    isplitl [Hk5]; · iexact Hk5
    isplitl [HA]; · iexact HA
    iexact Hd0
  iintro ⟨HO, Hw5, HA, Hd0⟩
  iapply (wp_part c)
  iapply (part10 (c := c) (A := (b0 m c X Rw Ix Sw)) (m := m) (K := K)) $$ [HA Hd1 HO Hr2]
  · isplitr; · iexact Hrec
    isplitr; · iexact Hlev
    isplitl [HA]; · iexact HA
    isplitl [Hd1]; · iexact Hd1
    isplitl [HO]; · iexact HO
    iexact Hr2
  iintro ⟨HA, Hd1, HO, Hz2, Hs6, Hd2⟩
  iapply (wp_part c)
  iapply (part11 (c := c) (m := m) (K := K)) $$ [HO Hs6 Hk6 Hr3 Hk7]
  · isplitr; · iexact Hrec
    isplitr; · iexact Hlev
    isplitl [HO]; · iexact HO
    isplitl [Hs6]; · iexact Hs6
    isplitl [Hk6]; · iexact Hk6
    isplitl [Hr3]; · iexact Hr3
    iexact Hk7
  iintro ⟨HO, Hw6, Hz3, Hd3, Hw7⟩
  iapply (wp_part c)
  iapply (part12 (c := c) (A := (b1 m c X Rw Ix Sw)) (m := m)) $$ [HA Hd2 Hd3]
  · isplitl [HA]; · iexact HA
    isplitl [Hd2]; · iexact Hd2
    iexact Hd3
  iintro ⟨HA, Hd2, Hd3⟩
  iapply (wp_part c)
  iapply (part13 c)
  iapply (wp_part c)
  iapply (part14 (c := c) (m := m) (K := K)) $$ [HO Hr4 Hk8 Hr5]
  · isplitr; · iexact Hrec
    isplitr; · iexact Hlev
    isplitl [HO]; · iexact HO
    isplitl [Hr4]; · iexact Hr4
    isplitl [Hk8]; · iexact Hk8
    iexact Hr5
  iintro ⟨HO, Hz4, Hd4, Hw8, Hz5, Hs9, Hd5⟩
  iapply (wp_part c)
  iapply (part15 (c := c) (A := (b3 m c X Rw Ix Sw)) (m := m) (K := K)) $$ [HO Hs9 Hk9 HA Hd4]
  · isplitr; · iexact Hrec
    isplitl [HO]; · iexact HO
    isplitl [Hs9]; · iexact Hs9
    isplitl [Hk9]; · iexact Hk9
    isplitl [HA]; · iexact HA
    iexact Hd4
  iintro ⟨HO, Hw9, HA, Hd4⟩
  iapply (wp_part c)
  iapply (part16 (c := c) (A := (b4 m c X Rw Ix Sw)) (m := m) (K := K)) $$ [HA Hd5 HO Hr6]
  · isplitr; · iexact Hrec
    isplitr; · iexact Hlev
    isplitl [HA]; · iexact HA
    isplitl [Hd5]; · iexact Hd5
    isplitl [HO]; · iexact HO
    iexact Hr6
  iintro ⟨HA, Hd5, HO, Hz6, Hs10, Hd6⟩
  iapply (wp_part c)
  iapply (part17 (c := c) (m := m) (K := K)) $$ [HO Hs10 Hk10 Hr7 Hk11]
  · isplitr; · iexact Hrec
    isplitr; · iexact Hlev
    isplitl [HO]; · iexact HO
    isplitl [Hs10]; · iexact Hs10
    isplitl [Hk10]; · iexact Hk10
    isplitl [Hr7]; · iexact Hr7
    iexact Hk11
  iintro ⟨HO, Hw10, Hz7, Hd7, Hw11⟩
  iapply (wp_part c)
  iapply (part18 (c := c) (A := (b5 m c X Rw Ix Sw)) (m := m)) $$ [HA Hd6 Hd7]
  · isplitl [HA]; · iexact HA
    isplitl [Hd6]; · iexact Hd6
    iexact Hd7
  iintro ⟨HA, Hd6, Hd7⟩
  iapply (wp_part c)
  iapply (part19 (c := c) (A := (b6 m c X Rw Ix Sw))) $$ [HA]
  · iexact HA
  iintro HA
  iapply (wp_part c)
  iapply (part20 (c := c) (A := (b7 m c X Rw Ix Sw)) (m := m) (K := K)) $$ [HO Hr8 Hr9 HA]
  · isplitr; · iexact Hrec
    isplitr; · iexact Hlev
    isplitl [HO]; · iexact HO
    isplitl [Hr8]; · iexact Hr8
    isplitl [Hr9]; · iexact Hr9
    iexact HA
  iintro ⟨HO, Hz8, Hd8, Hz9, Hd9, HA⟩
  iapply (wp_part c)
  iapply (part21 (c := c) (A := (b8 m c X Rw Ix Sw)) (m := m) (K := K)) $$ [HA Hd9 HO Hr10]
  · isplitr; · iexact Hrec
    isplitr; · iexact Hlev
    isplitl [HA]; · iexact HA
    isplitl [Hd9]; · iexact Hd9
    isplitl [HO]; · iexact HO
    iexact Hr10
  iintro ⟨HA, Hd9, HO, Hz10, Hd10⟩
  iapply (wp_part c)
  iapply (part22 (c := c) (A := (b9 m c X Rw Ix Sw)) (m := m) (K := K)) $$ [HO Hr11 HA Hd10]
  · isplitr; · iexact Hrec
    isplitr; · iexact Hlev
    isplitl [HO]; · iexact HO
    isplitl [Hr11]; · iexact Hr11
    isplitl [HA]; · iexact HA
    iexact Hd10
  iintro ⟨HO, Hz11, Hd11, HA, Hd10⟩
  iapply (wp_part c)
  iapply (part23 (c := c) (A := (b10 m c X Rw Ix Sw)) (m := m) (K := K)) $$ [HA Hd11 HO Hw0]
  · isplitr; · iexact Hrec
    isplitl [HA]; · iexact HA
    isplitl [Hd11]; · iexact Hd11
    isplitl [HO]; · iexact HO
    iexact Hw0
  iintro ⟨HA, Hd11, HO, Hs0, Hy0⟩
  iapply (wp_part c)
  iapply (part24 (c := c) (m := m) (K := K)) $$ [HO Hw2 Hw4 Hw6]
  · isplitr; · iexact Hrec
    isplitl [HO]; · iexact HO
    isplitl [Hw2]; · iexact Hw2
    isplitl [Hw4]; · iexact Hw4
    iexact Hw6
  iintro ⟨HO, Hs2, Hy2, Hs4, Hy4, Hs6, Hy6⟩
  iapply (wp_part c)
  iapply (part25 (c := c) (m := m) (K := K)) $$ [HO Hw8 Hw10 Hw1]
  · isplitr; · iexact Hrec
    isplitl [HO]; · iexact HO
    isplitl [Hw8]; · iexact Hw8
    isplitl [Hw10]; · iexact Hw10
    iexact Hw1
  iintro ⟨HO, Hs8, Hy8, Hs10, Hy10, Hs1, Hy1⟩
  iapply (wp_part c)
  iapply (part26 (c := c) (m := m) (K := K)) $$ [HO Hw3 Hw5 Hw7]
  · isplitr; · iexact Hrec
    isplitl [HO]; · iexact HO
    isplitl [Hw3]; · iexact Hw3
    isplitl [Hw5]; · iexact Hw5
    iexact Hw7
  iintro ⟨HO, Hs3, Hy3, Hs5, Hy5, Hs7, Hy7⟩
  simp only [Prog.lift, Prog.bind_op, Prog.bind_ret, Prog.pure_eq_ret]
  iapply (wp_lane_done m K c 9 (sS := dS (sIx 9)) (src := dM 9) (dst := sM 9) rfl (credit_sM 9)) $$ [Hw9 HO]
  · isplitr; · iexact Hrec
    isplitl [Hw9]; · iexact Hw9
    iexact HO
  iintro ⟨Hs9, Hy9, HO⟩
  iapply (wp_lane_done m K c 11 (sS := dS (sIx 11)) (src := dM 11) (dst := sM 11) rfl (credit_sM 11)) $$ [Hw11 HO]
  · isplitr; · iexact Hrec
    isplitl [Hw11]; · iexact Hw11
    iexact HO
  iintro ⟨Hs11, Hy11, HO⟩
  iapply (wp_done c)
  iapply Hq
  isplitl [HO]; · iexact HO
  isplitl [HzB]; · iexact HzB
  isplitl [Hy0 Hz0 Hy1 Hz1 Hy2 Hz2 Hy3 Hz3 Hy4 Hz4 Hy5 Hz5 Hy6 Hz6 Hy7 Hz7 Hy8 Hz8 Hy9 Hz9 Hy10 Hz10 Hy11 Hz11]
  · unfold lane1
    isplitl [Hy0 Hz0]; · (isplitl [Hy0] <;> iassumption)
    isplitl [Hy1 Hz1]; · (isplitl [Hy1] <;> iassumption)
    isplitl [Hy2 Hz2]; · (isplitl [Hy2] <;> iassumption)
    isplitl [Hy3 Hz3]; · (isplitl [Hy3] <;> iassumption)
    isplitl [Hy4 Hz4]; · (isplitl [Hy4] <;> iassumption)
    isplitl [Hy5 Hz5]; · (isplitl [Hy5] <;> iassumption)
    isplitl [Hy6 Hz6]; · (isplitl [Hy6] <;> iassumption)
    isplitl [Hy7 Hz7]; · (isplitl [Hy7] <;> iassumption)
    isplitl [Hy8 Hz8]; · (isplitl [Hy8] <;> iassumption)
    isplitl [Hy9 Hz9]; · (isplitl [Hy9] <;> iassumption)
    isplitl [Hy10 Hz10]; · (isplitl [Hy10] <;> iassumption)
    isplitl [Hy11] <;> iassumption
  isplitl [Hs4 Hd0 Hs5 Hd1 Hs6 Hd2 Hs7 Hd3 Hs8 Hd4 Hs9 Hd5 Hs10 Hd6 Hs11 Hd7 Hd8 Hd9 Hd10 Hd11]
  · isplitl [Hs4 Hd0]
    · iapply (hold_join m c 0 4 rfl rfl)
      isplitl [Hs4] <;> iassumption
    isplitl [Hs5 Hd1]
    · iapply (hold_join m c 1 5 rfl rfl)
      isplitl [Hs5] <;> iassumption
    isplitl [Hs6 Hd2]
    · iapply (hold_join m c 2 6 rfl rfl)
      isplitl [Hs6] <;> iassumption
    isplitl [Hs7 Hd3]
    · iapply (hold_join m c 3 7 rfl rfl)
      isplitl [Hs7] <;> iassumption
    isplitl [Hs8 Hd4]
    · iapply (hold_join m c 4 8 rfl rfl)
      isplitl [Hs8] <;> iassumption
    isplitl [Hs9 Hd5]
    · iapply (hold_join m c 5 9 rfl rfl)
      isplitl [Hs9] <;> iassumption
    isplitl [Hs10 Hd6]
    · iapply (hold_join m c 6 10 rfl rfl)
      isplitl [Hs10] <;> iassumption
    isplitl [Hs11 Hd7]
    · iapply (hold_join m c 7 11 rfl rfl)
      isplitl [Hs11] <;> iassumption
    isplitl [Hd8]; · (unfold land; iexists _; iexact Hd8)
    isplitl [Hd9]; · (unfold land; iexists _; iexact Hd9)
    isplitl [Hd10]; · (unfold land; iexists _; iexact Hd10)
    unfold land; iexists _; iexact Hd11
  isplitl [Hs0 Hs1 Hs2 Hs3]
  · isplitl [Hs0]; · (iapply (own_back m c 0 0 rfl rfl); iexact Hs0)
    isplitl [Hs2]; · (iapply (own_back m c 1 2 rfl rfl); iexact Hs2)
    isplitl [Hs1]; · (iapply (own_back m c 2 1 rfl rfl); iexact Hs1)
    iapply (own_back m c 3 3 rfl rfl); iexact Hs3
  isplitl [HX]; · iexact HX
  isplitl [HRw]; · iexact HRw
  isplitl [HIx]; · iexact HIx
  isplitl [HE]; · iexact HE
  isplitl [HSw]; · iexact HSw
  iexact HA

end Cert.RingProof
-- ==== Proof.Slots.lean ====
/-
# The scratch buffers in slots

A scratch buffer held whole is its slots, each held at some contents, and the slots make the buffer again.
-/
module

public import proofs.«01_k».proof.Proof.Body

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section Pieces
variable {s s' : Shape} {e : EltTy} (M : Memref sig .tc .vmem s e) {T : Type} [Fintype T] [DecidableEq T]
  (r : T → Rect s) (hr : ∀ t a, (r t).stride a = 1) (hq : ∀ t, (r t).shape.Squeezes s') (c : Dev nD)

/-- One slot, held at some contents. -/
abbrev slot (t : T) : sProp 𝕄 := iprop(∃ X, owns (c : Thread nD τ) ((M.slice (r t) (hr t)).squeeze s' (hq t)) fullShare X)
/-- The buffer cells of a slot. -/
abbrev slotSet (t : T) : Finset (Idx (M.view.loc (c : Thread nD τ))) := (M.access (r t)).set

theorem slot_of_owns (t : T) (Y : (r t).shape.Idx → Elt F e) :
    (owns (c : Thread nD τ) (M.slice (r t) (hr t)) fullShare Y : sProp 𝕄) ⊢ slot M r hr hq c t := by
  unfold slot owns
  iintro ⟨%g, -, H⟩
  ihave H := (Entails.of_eq (pts_squeeze M (r t) (hr t) (hq t) c fullShare g).symm) $$ H
  iexists _; iexists g; isplitr; · (ipureintro; rfl)
  iexact H

theorem slot_out (t : T) :
    (slot (F := F) M r hr hq c t) ⊢ iprop(∃ g : Buf (Elt F) (M.view.loc (c : Thread nD τ)), M.view.loc (c : Thread nD τ) ↦[slotSet M r c t]{fullShare} g) := by
  unfold slot owns
  iintro ⟨%X, %g, -, H⟩
  ihave H := (Entails.of_eq (pts_squeeze M (r t) (hr t) (hq t) c fullShare g)) $$ H
  iexists g; iexact H

variable (hd : ∀ t t', t ≠ t' → Disjoint (r t).set (r t').set)
  (hcov : (Finset.univ : Finset T).biUnion (fun t => (r t).set) = Finset.univ)

include hd hcov in
theorem pieces_split :
    (iprop(∃ f, M.view.loc (c : Thread nD τ) ↦[M.view.set]{fullShare} f) : sProp 𝕄) ⊢ bigSep Finset.univ (slot (F := F) M r hr hq c) := by
  have h : ∀ f : Buf (Elt F) (M.view.loc (c : Thread nD τ)), (M.view.loc (c : Thread nD τ) ↦[M.view.set]{fullShare} f : sProp 𝕄) ⊢ bigSep Finset.univ (slot (F := F) M r hr hq c) := fun f =>
    (Entails.of_eq (pointsTo_rects (c : Thread nD τ) M fullShare r hr hd hcov f)).trans (bigSep_mono fun t _ => slot_of_owns M r hr hq c t _)
  iintro ⟨%f, H⟩
  iapply (h f); iexact H

include hd in
theorem pieces_disj (t t' : T) (htt : t ≠ t') : Disjoint (slotSet M r c t) (slotSet M r c t') := by
  show Disjoint (M.view.slice (r t)).set (M.view.slice (r t')).set
  rw [View.set_slice, View.set_slice]; exact (Finset.disjoint_map _).mpr (hd t t' htt)

include hcov in
theorem pieces_cover (hM : M.view.set = Finset.univ) : (Finset.univ : Finset T).biUnion (slotSet M r c) = Finset.univ := by
  refine Finset.eq_univ_of_forall fun i => ?_
  have hi : i ∈ M.view.set := by rw [hM]; exact Finset.mem_univ i
  rw [View.set, Finset.mem_map] at hi
  obtain ⟨x, -, rfl⟩ := hi
  obtain ⟨t, -, hx⟩ := Finset.mem_biUnion.mp (hcov.symm ▸ Finset.mem_univ x)
  refine Finset.mem_biUnion.mpr ⟨t, Finset.mem_univ _, ?_⟩
  show _ ∈ (M.view.slice (r t)).set
  rw [View.set_slice]; exact Finset.mem_map_of_mem _ hx

include hd hcov in
theorem pieces_join (f₀ : Buf (Elt F) (M.view.loc (c : Thread nD τ))) (hM : M.view.set = Finset.univ) :
    bigSep Finset.univ (slot (F := F) M r hr hq c) ⊢ iprop(∃ f, M.view.loc (c : Thread nD τ) ↦{fullShare} f) := by
  have h1 := bigSep_mono (s := Finset.univ) fun t _ => slot_out (F := F) M r hr hq c t
  have h2 := BI.bigSep_exists_pi Finset.univ (fun (t : T) (g : Buf (Elt F) (M.view.loc (c : Thread nD τ))) => (M.view.loc (c : Thread nD τ) ↦[slotSet M r c t]{fullShare} g : sProp 𝕄))
  refine h1.trans (h2.trans ?_)
  iintro ⟨%g, H⟩
  ihave H := (pointsTo_biUnion_join Finset.univ (slotSet M r c) g f₀ fun t _ t' _ h => pieces_disj M r c hd t t' h) $$ H
  icases H with ⟨%f, -, H⟩
  rw [pieces_cover M r c hcov hM]
  iexists f; iexact H

end Pieces

/-! ## The three scratch buffers -/

theorem rE_disj (k k' : Fin 4) (h : k ≠ k') : Disjoint (rE k).set (rE k').set :=
  Rect.unit_disjoint (0 : Fin 3) (by
    have h' : k.val ≠ k'.val := fun e => h (Fin.ext e)
    show k.val + 1 ≤ k'.val ∨ k'.val + 1 ≤ k.val
    omega)
theorem rE_cover : (Finset.univ : Finset (Fin 4)).biUnion (fun k => (rE k).set) = Finset.univ := by
  refine Finset.eq_univ_of_forall fun i => Finset.mem_biUnion.mpr ⟨⟨(i 0).val, (i 0).isLt⟩, Finset.mem_univ _, Rect.mem_set_unit.mpr fun a => ?_⟩
  fin_cases a
  · exact ⟨le_rfl, Nat.lt_succ_self _⟩
  · exact ⟨Nat.zero_le _, by have := (i 1).isLt; show (i 1).val < 0 + 256; rw [Nat.zero_add]; exact this⟩
  · exact ⟨Nat.zero_le _, by have := (i 2).isLt; show (i 2).val < 0 + 512; rw [Nat.zero_add]; exact this⟩

theorem rC_disj (t t' : Fin 3 × Fin 2) (h : t ≠ t') : Disjoint (rC t.1 t.2).set (rC t'.1 t'.2).set := by
  by_cases h1 : t.1 = t'.1
  · exact Rect.unit_disjoint (1 : Fin 4) (by
      have h' : t.2.val ≠ t'.2.val := fun e => h (Prod.ext h1 (Fin.ext e))
      show t.2.val + 1 ≤ t'.2.val ∨ t'.2.val + 1 ≤ t.2.val
      omega)
  · exact Rect.unit_disjoint (0 : Fin 4) (by
      have h' : t.1.val ≠ t'.1.val := fun e => h1 (Fin.ext e)
      show t.1.val + 1 ≤ t'.1.val ∨ t'.1.val + 1 ≤ t.1.val
      omega)
theorem rC_cover : (Finset.univ : Finset (Fin 3 × Fin 2)).biUnion (fun t => (rC t.1 t.2).set) = Finset.univ := by
  refine Finset.eq_univ_of_forall fun i => Finset.mem_biUnion.mpr ⟨(⟨(i 0).val, (i 0).isLt⟩, ⟨(i 1).val, (i 1).isLt⟩), Finset.mem_univ _, Rect.mem_set_unit.mpr fun a => ?_⟩
  fin_cases a
  · exact ⟨le_rfl, Nat.lt_succ_self _⟩
  · exact ⟨le_rfl, Nat.lt_succ_self _⟩
  · exact ⟨Nat.zero_le _, by have := (i 2).isLt; show (i 2).val < 0 + 256; rw [Nat.zero_add]; exact this⟩
  · exact ⟨Nat.zero_le _, by have := (i 3).isLt; show (i 3).val < 0 + 512; rw [Nat.zero_add]; exact this⟩

/-- A buffer held whole at some contents. -/
abbrev ptAny (c : Dev nD) (b : Ref sig .tc) : sProp 𝕄 := iprop(∃ f : Buf (Elt F) ((c : Thread nD τ).loc b), ((c : Thread nD τ).loc b) ↦{fullShare} f)

theorem bigSep32 (Φ : Fin 3 × Fin 2 → sProp 𝕄) :
    bigSep Finset.univ Φ = iprop(Φ (0, 0) ∗ Φ (0, 1) ∗ Φ (1, 0) ∗ Φ (1, 1) ∗ Φ (2, 0) ∗ Φ (2, 1)) := by
  rw [bigSep_univ_eq_bigSepL [(0, 0), (0, 1), (1, 0), (1, 1), (2, 0), (2, 1)] (by decide) (by decide)]
  simp only [bigSepL_cons_cons, bigSepL_singleton]
  rfl

/-- The lanes' landing slots, spelt by buffer: even lanes land in the first, odd ones in the second. -/
theorem land_slots (c : Dev nD) :
    (bigSep Finset.univ fun i : Fin 12 => land (F := F) i c) =
      iprop((∃ X, hold c (aM 0 0) fullShare X)
        ∗ (∃ X, hold c (bM 0 0) fullShare X)
        ∗ (∃ X, hold c (aM 0 1) fullShare X)
        ∗ (∃ X, hold c (bM 0 1) fullShare X)
        ∗ (∃ X, hold c (aM 1 0) fullShare X)
        ∗ (∃ X, hold c (bM 1 0) fullShare X)
        ∗ (∃ X, hold c (aM 1 1) fullShare X)
        ∗ (∃ X, hold c (bM 1 1) fullShare X)
        ∗ (∃ X, hold c (aM 2 0) fullShare X)
        ∗ (∃ X, hold c (bM 2 0) fullShare X)
        ∗ (∃ X, hold c (aM 2 1) fullShare X)
        ∗ (∃ X, hold c (bM 2 1) fullShare X)) := by
  rw [bigSep12 (fun i => land (F := F) i c)]; rfl

variable (c : Dev nD)

theorem own_split : ptAny (F := F) c cc0_scratch0 ⊢ bigSep Finset.univ fun k : Fin 4 => eAny c k := by
  have h := pieces_split (F := F) (Memref.whole cc0_scratch0 : Memref sig .tc .vmem S4x256x512 .bf16) rE (fun _ _ => rfl)
    (fun _ => squeezes_S1x256x512_S256x512) c rE_disj rE_cover
  rw [show (Memref.whole cc0_scratch0 : Memref sig .tc .vmem S4x256x512 .bf16).view.set = Finset.univ from View.set_whole _] at h
  exact h
theorem own_join : (bigSep Finset.univ fun k : Fin 4 => eAny (F := F) c k) ⊢ ptAny c cc0_scratch0 :=
  pieces_join (F := F) (Memref.whole cc0_scratch0 : Memref sig .tc .vmem S4x256x512 .bf16) rE (fun _ _ => rfl)
    (fun _ => squeezes_S1x256x512_S256x512) c rE_disj rE_cover (fun _ => Classical.arbitrary _) (View.set_whole _)

theorem slots_split : iprop(ptAny (F := F) c cc0_scratch1 ∗ ptAny c cc0_scratch2) ⊢ bigSep Finset.univ fun i : Fin 12 => land (F := F) i c := by
  have h1 := pieces_split (F := F) (Memref.whole cc0_scratch1 : Memref sig .tc .vmem S3x2x256x512 .bf16) (fun t : Fin 3 × Fin 2 => rC t.1 t.2) (fun _ _ => rfl)
    (fun _ => squeezes_S1x1x256x512_S256x512) c rC_disj rC_cover
  have h2 := pieces_split (F := F) (Memref.whole cc0_scratch2 : Memref sig .tc .vmem S3x2x256x512 .bf16) (fun t : Fin 3 × Fin 2 => rC t.1 t.2) (fun _ _ => rfl)
    (fun _ => squeezes_S1x1x256x512_S256x512) c rC_disj rC_cover
  rw [show (Memref.whole cc0_scratch1 : Memref sig .tc .vmem S3x2x256x512 .bf16).view.set = Finset.univ from View.set_whole _, bigSep32] at h1
  rw [show (Memref.whole cc0_scratch2 : Memref sig .tc .vmem S3x2x256x512 .bf16).view.set = Finset.univ from View.set_whole _, bigSep32] at h2
  rw [land_slots]
  iintro ⟨H1, H2⟩
  ihave H1 := h1 $$ H1
  ihave H2 := h2 $$ H2
  icases H1 with ⟨A0, A1, A2, A3, A4, A5⟩
  icases H2 with ⟨B0, B1, B2, B3, B4, B5⟩
  isplitl [A0]; · iexact A0
  isplitl [B0]; · iexact B0
  isplitl [A1]; · iexact A1
  isplitl [B1]; · iexact B1
  isplitl [A2]; · iexact A2
  isplitl [B2]; · iexact B2
  isplitl [A3]; · iexact A3
  isplitl [B3]; · iexact B3
  isplitl [A4]; · iexact A4
  isplitl [B4]; · iexact B4
  isplitl [A5]; · iexact A5
  iexact B5

theorem slots_join : (bigSep Finset.univ fun i : Fin 12 => land (F := F) i c) ⊢ iprop(ptAny (F := F) c cc0_scratch1 ∗ ptAny c cc0_scratch2) := by
  have h1 := pieces_join (F := F) (Memref.whole cc0_scratch1 : Memref sig .tc .vmem S3x2x256x512 .bf16) (fun t : Fin 3 × Fin 2 => rC t.1 t.2) (fun _ _ => rfl)
    (fun _ => squeezes_S1x1x256x512_S256x512) c rC_disj rC_cover (fun _ => Classical.arbitrary _) (View.set_whole _)
  have h2 := pieces_join (F := F) (Memref.whole cc0_scratch2 : Memref sig .tc .vmem S3x2x256x512 .bf16) (fun t : Fin 3 × Fin 2 => rC t.1 t.2) (fun _ _ => rfl)
    (fun _ => squeezes_S1x1x256x512_S256x512) c rC_disj rC_cover (fun _ => Classical.arbitrary _) (View.set_whole _)
  rw [bigSep32] at h1 h2
  rw [land_slots]
  iintro ⟨A0, B0, A1, B1, A2, B2, A3, B3, A4, B4, A5, B5⟩
  isplitl [A0 A1 A2 A3 A4 A5]
  · iapply h1
    isplitl [A0]; · iexact A0
    isplitl [A1]; · iexact A1
    isplitl [A2]; · iexact A2
    isplitl [A3]; · iexact A3
    isplitl [A4]; · iexact A4
    iexact A5
  · iapply h2
    isplitl [B0]; · iexact B0
    isplitl [B1]; · iexact B1
    isplitl [B2]; · iexact B2
    isplitl [B3]; · iexact B3
    isplitl [B4]; · iexact B4
    iexact B5

end Cert.RingProof
-- ==== Proof.Launch.lean ====
/-
# The launch

Every device at the start: its semaphores become the cells of the schedule, its tokens are dealt to the devices that pay with them, its
credits are what the other devices owe it. Then the run of the whole mesh, for any float values.
-/
module

public import proofs.«01_k».proof.Proof.Slots
public import proofs.«01_k».proof.Proof.Gen.KernelIdeal.Points
public import Idealize.ShloMosaic.Lib.Pipeline.CollectiveSegs
public import Idealize.ShloMosaic.Lib.Pipeline.ValueKit.Geometry

@[expose] public section

noncomputable section

namespace Cert.RingProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

/-- The staged blocks of the other inputs. -/
def xst (c : Dev nD) : (cc0_stg0_0 : Ref sig .tc).ty.Contents (Elt F) := (win0_0.blk (0 : Fin 1)).view.read (Elt F) (m ((c : Thread nD τ).loc main_arg0))
def rwst (c : Dev nD) : (cc0_stg1_0 : Ref sig .tc).ty.Contents (Elt F) := (win0_1.blk (0 : Fin 1)).view.read (Elt F) (m ((c : Thread nD τ).loc main_arg1))
def ixst (c : Dev nD) : (cc0_stg2_0 : Ref sig .tc).ty.Contents (Elt F) := (win0_2.blk (0 : Fin 1)).view.read (Elt F) (m ((c : Thread nD τ).loc main_arg2))
def swst (c : Dev nD) : (cc0_stg4_0 : Ref sig .tc).ty.Contents (Elt F) := (win0_4.blk (0 : Fin 1)).view.read (Elt F) (m ((c : Thread nD τ).loc main_arg4))
/-- What the body leaves in the output block. -/
def outAt (c : Dev nD) : (cc0_stg5_0 : Ref sig .tc).ty.Contents (Elt F) := b11 m c (xst m c) (rwst m c) (ixst m c) (swst m c)

/-- The tokens and positions a device starts with. -/
def mine (c : Dev nD) : sProp 𝕄 :=
  iprop(dutyTok ER (barCell (prv c)) 0 true ∗ dutyTok ER (barCell (nxt c)) 0 false ∗ atPos ER (barCell c) 0 ∅ 0
    ∗ bigSep Finset.univ (fun i => ltok i c) ∗ bigSep Finset.univ (fun i : Fin 12 => atPos ER (sCell i c) 0 ∅ 0) ∗ bigSep Finset.univ (fun i : Fin 12 => atPos ER (rCell i c) 0 ∅ 0))
def G' (c : Dev nD) : sProp 𝕄 := iprop(∃ K, recs m K ∗ mine c)
/-- The credits a device starts with. -/
def credits (c : Dev nD) : sProp 𝕄 := iprop(cred (tallyAt (barCell c) () 2) ∗ bigSep Finset.univ (fun i : Fin 12 => cred (tallyAt (rCell i c) () N)))
def start (c : Dev nD) : sProp 𝕄 := iprop(G' m c ∗ credits c ∗ levAts L lv)
def Φ₀ (c : Dev nD) : sProp 𝕄 := iprop(start m c ∗ bigSep Finset.univ (fun i => land (F := F) i c) ∗ bigSep Finset.univ (fun k => eAny (F := F) c k))
def Φ₁ (c : Dev nD) : sProp 𝕄 :=
  iprop(semVal (barCell c) 0 ∗ bigSep Finset.univ (fun i => lane1 i c) ∗ bigSep Finset.univ (fun i => land (F := F) i c) ∗ bigSep Finset.univ (fun k => eAny (F := F) c k))

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xst m c
    | ⟨1, _⟩ => rwst m c
    | ⟨2, _⟩ => ixst m c
    | ⟨3, _⟩ => ewst m c
    | ⟨4, _⟩ => swst m c
    | ⟨5, _⟩ => outAt m c
  Φ t := match t with
    | ⟨0, _⟩ => Φ₀ m c
    | ⟨_ + 1, _⟩ => Φ₁ c
  q _ := fullShare
  owed t := match t with
    | ⟨0, _⟩ => O₀ c
    | ⟨_ + 1, _⟩ => 0

/-! ## The body obligation -/

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 6) t0_0 d))
    ∗ (∃ d, stg c cc0_stg1_0 ((dats m ρ 0 c).before (1 : Fin 6) t0_0 d))
    ∗ (∃ d, stg c cc0_stg2_0 ((dats m ρ 0 c).before (2 : Fin 6) t0_0 d))
    ∗ (∃ d, stg c cc0_stg3_0 ((dats m ρ 0 c).before (3 : Fin 6) t0_0 d))
    ∗ (∃ d, stg c cc0_stg4_0 ((dats m ρ 0 c).before (4 : Fin 6) t0_0 d))
    ∗ (∃ d, stg c cc0_stg5_0 ((dats m ρ 0 c).before (5 : Fin 6) t0_0 d)))
def bodyPost (c : Dev nD) : sProp 𝕄 :=
  iprop(Φ₁ c ∗ (dats m ρ 0 c).owesAt () t0_0.succ
    ∗ stg c cc0_stg0_0 (xst m c)
    ∗ stg c cc0_stg1_0 (rwst m c)
    ∗ stg c cc0_stg2_0 (ixst m c)
    ∗ stg c cc0_stg3_0 (ewst m c)
    ∗ stg c cc0_stg4_0 (swst m c)
    ∗ stg c cc0_stg5_0 (outAt m c))

/-- A lane's kit from its parts, for all lanes at once. -/
theorem lanes_intro (c : Dev nD) :
    iprop(bigSep Finset.univ (fun i => ltok i c) ∗ bigSep Finset.univ (fun i : Fin 12 => atPos ER (sCell i c) 0 ∅ 0)
        ∗ bigSep Finset.univ (fun i : Fin 12 => cred (tallyAt (rCell i c) () N)) ∗ bigSep Finset.univ (fun i : Fin 12 => atPos ER (rCell i c) 0 ∅ 0))
      ⊢ (bigSep Finset.univ (fun i => lane0 (F := F) i c) : sProp 𝕄) := by
  unfold lane0 rkit
  rw [bigSep_sep', bigSep_sep', bigSep_sep']

set_option maxHeartbeats 1000000 in
set_option maxRecDepth 4000 in
theorem sound_body (c : Dev nD) :
    bodyPre m ρ c ⊢ wp frame (wpE (defs₀ (F := F)) 𝒱₀ (c : Thread nD τ) none) Set.univ
      (cc0_body (F := F) (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6) (fun _ => bodyPost m ρ c) := by
  unfold bodyPre Φ₀ start G' mine credits Dat.owesAt Pipeline.owesWithin
  iintro ⟨⟨⟨⟨%K, #Hrec, HtP, HtN, Hat, Hlt, HaS, HaR⟩, ⟨HcB, HcR⟩, #Hlev⟩, Hland, Hown⟩, ⟨%W, %hW, HO⟩,
    ⟨%d0, %g0, %hg0, H0⟩, ⟨%d1, %g1, %hg1, H1⟩, ⟨%d2, %g2, %hg2, H2⟩, ⟨%d3, %g3, %hg3, H3⟩, ⟨%d4, %g4, %hg4, H4⟩, ⟨%d5, %g5, %hg5, H5⟩⟩
  have e0 : g0 = xst m c := by rw [hg0]; unfold Dat.before; rw [if_pos (fetch0_0 t0_0)]; rfl
  subst e0
  have e1 : g1 = rwst m c := by rw [hg1]; unfold Dat.before; rw [if_pos (fetch0_1 t0_0)]; rfl
  subst e1
  have e2 : g2 = ixst m c := by rw [hg2]; unfold Dat.before; rw [if_pos (fetch0_2 t0_0)]; rfl
  subst e2
  have e3 : g3 = ewst m c := by rw [hg3]; unfold Dat.before; rw [if_pos (fetch0_3 t0_0)]; rfl
  subst e3
  have e4 : g4 = swst m c := by rw [hg4]; unfold Dat.before; rw [if_pos (fetch0_4 t0_0)]; rfl
  subst e4
  iapply (run_body m K c (xst m c) (rwst m c) (ixst m c) (swst m c) g5) $$ [HO HtP HtN HcB Hat Hlt HaS HcR HaR Hland Hown H0 H1 H2 H3 H4 H5]
  · isplitr; · iexact Hrec
    isplitr; · iexact Hlev
    isplitl [HO]
    · unfold ow; iexists W; iexact HO
    isplitl [HtP]; · iexact HtP
    isplitl [HtN]; · iexact HtN
    isplitl [HcB]; · iexact HcB
    isplitl [Hat]; · iexact Hat
    isplitl [Hlt HaS HcR HaR]
    · iapply (lanes_intro c)
      isplitl [Hlt]; · iexact Hlt
      isplitl [HaS]; · iexact HaS
      isplitl [HcR] <;> iassumption
    isplitl [Hland]; · iexact Hland
    isplitl [Hown]; · iexact Hown
    isplitl [H0]; · iexact H0
    isplitl [H1]; · iexact H1
    isplitl [H2]; · iexact H2
    isplitl [H3]; · iexact H3
    isplitl [H4]; · iexact H4
    iexact H5
  iintro ⟨HO, HzB, Hz, Hland, Hown, H0, H1, H2, H3, H4, H5⟩
  unfold bodyPost Φ₁ ow Dat.owesAt Pipeline.owesWithin
  isplitl [HzB Hz Hland Hown]
  · isplitl [HzB]; · iexact HzB
    isplitl [Hz]; · iexact Hz
    isplitl [Hland] <;> iassumption
  isplitl [HO]
  · icases HO with ⟨%W', HO⟩
    iexists W'; isplitr; · ipureintro; exact fun _ _ => Or.inl trivial
    iexact HO
  isplitl [H0]
  · iexists _; isplitr; · (ipureintro; rfl)
    iexact H0
  isplitl [H1]
  · iexists _; isplitr; · (ipureintro; rfl)
    iexact H1
  isplitl [H2]
  · iexists _; isplitr; · (ipureintro; rfl)
    iexact H2
  isplitl [H3]
  · iexists _; isplitr; · (ipureintro; rfl)
    iexact H3
  isplitl [H4]
  · iexists _; isplitr; · (ipureintro; rfl)
    iexact H4
  iexists _; isplitr; · (ipureintro; rfl)
  iexact H5

set_option maxRecDepth 40000 in
/-- What the pipeline asks of the body. -/
theorem body_obligation (c : Dev nD) : BodyObligation (dats (F := F) m ρ 0 c) (defs₀ (F := F)) 𝒱₀ () Set.univ := fun t => by
  rw [fin_N0 t]
  rw [bigSep_W0, bigSep_W0]
  simp only [owns_whole_eq]
  exact sound_body m ρ c

/-! ## Cells and tokens at the launch -/

/-- The kernel's own semaphores: the lanes' two kinds. -/
abbrev osem : Fin 12 ⊕ Fin 12 → SemLoc sig := fun
  | .inl i => .dma (dS (sIx i))
  | .inr i => .dma (dS (rIx i))
theorem ownSemFacts : Pipeline.OwnSemFacts cfg0.spec osem := by decide +kernel

theorem share_eq (c : Dev nD) (w : Fin cfg0.W) : (dats m ρ 0 c).share w = fullShare := by unfold Dat.share; split <;> rfl

/-- A device's twenty-five cells, one by one: the barrier's, then each lane's two. -/
def cellIx : Unit ⊕ (Fin 12 ⊕ Fin 12) → Fin 25 := fun
  | .inl _ => 0
  | .inr (.inl i) => sIx i
  | .inr (.inr i) => rIx i
theorem cellIx_bij : Function.Bijective cellIx := by
  rw [Fintype.bijective_iff_injective_and_card]; exact ⟨by decide, by decide⟩
theorem bigSep25 (Φ : Fin 25 → sProp 𝕄) :
    bigSep Finset.univ Φ = iprop(Φ 0 ∗ bigSep Finset.univ (fun i : Fin 12 => Φ (sIx i)) ∗ bigSep Finset.univ (fun i : Fin 12 => Φ (rIx i))) := by
  rw [bigSep_univ_equiv (Equiv.ofBijective cellIx cellIx_bij) Φ, bigSep_univ_sum, bigSep_univ_sum]
  congr 1
  rw [Finset.univ_unique, bigSep_singleton]; rfl

theorem csem_inj : Function.Injective csem := by
  intro k k' h
  unfold csem at h
  split at h <;> split at h
  · exact (‹k = 0›).trans (‹k' = 0›).symm
  · exact absurd h (by simp)
  · exact absurd h (by simp)
  · have h' := congrArg Fin.val (SemLoc.dma.inj h)
    exact Fin.ext (Nat.add_left_cancel h')
theorem kcell_injective : Function.Injective (kcell : Dev nD × Fin 25 → GSem nD τ sig) := by
  rintro ⟨c, k⟩ ⟨c', k'⟩ h
  have h1 : c = c' := congrArg (fun g : GSem nD τ sig => g.1.1) h
  have h2 : k = k' := csem_inj (congrArg Prod.snd h)
  rw [h1, h2]
def ringCells : Finset (GSem nD τ sig) := Finset.univ.map ⟨kcell, kcell_injective⟩

/-- Two tokens for every cell; the lanes' cells use one of theirs. -/
abbrev tokOf (x : Dev nD × (Fin 25 × Bool)) : GSem nD τ sig × ℕ × Bool := (kcell (x.1, x.2.1), 0, x.2.2)
theorem tokOf_injective : Function.Injective tokOf := by
  rintro ⟨c, k, b⟩ ⟨c', k', b'⟩ h
  have h1 := kcell_injective (congrArg Prod.fst h)
  have h2 : b = b' := congrArg (fun x : GSem nD τ sig × ℕ × Bool => x.2.2) h
  have h3 : c = c' := congrArg Prod.fst h1
  have h4 : k = k' := congrArg Prod.snd h1
  rw [h2, h3, h4]
def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop(dutyTok ER (barCell c) 0 false ∗ dutyTok ER (barCell c) 0 true
    ∗ bigSep Finset.univ (fun i : Fin 12 => dutyTok ER (sCell i c) 0 false) ∗ bigSep Finset.univ (fun i : Fin 12 => dutyTok ER (rCell i c) 0 false))

def G (c : Dev nD) : sProp 𝕄 :=
  iprop((bigSep Finset.univ fun k : Fin 25 => roundState ER (rd m) (kcell (c, k)) 0)
    ∗ (bigSep Finset.univ fun k : Fin 25 => iprop(atPos ER (kcell (c, k)) 0 ∅ 0 ∗ reached ER (kcell (c, k)) 0)) ∗ toks c)

theorem toks_of_minted (c : Dev nD) :
    (bigSep Finset.univ fun kb : Fin 25 × Bool => (dutyTok ER (kcell (c, kb.1)) 0 kb.2 : sProp 𝕄)) ⊢ toks c := by
  have hb (k : Fin 25) : (bigSep Finset.univ fun b : Bool => (dutyTok ER (kcell (c, k)) 0 b : sProp 𝕄))
      = iprop(dutyTok ER (kcell (c, k)) 0 false ∗ dutyTok ER (kcell (c, k)) 0 true) := by
    rw [bigSep_univ_eq_bigSepL [false, true] (by decide) (by decide)]; rfl
  rw [bigSep_univ_prod]
  simp only [hb]
  rw [bigSep25]
  simp only [kcell_bar, kcell_s, kcell_r]
  rw [bigSep_sep', bigSep_sep']
  unfold toks
  iintro ⟨⟨H1, H2⟩, ⟨H3, -⟩, ⟨H4, -⟩⟩
  isplitl [H1]; · iexact H1
  isplitl [H2]; · iexact H2
  isplitl [H3] <;> iassumption

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 25 => Φ (kcell (c, k)) := by
    unfold ringCells; rw [bigSep_map, bigSep_univ_prod]; rfl
  have hT : bigSep ringToks (fun x => (dutyTok ER x.1 x.2.1 x.2.2 : sProp 𝕄)) ⊢ bigSep Finset.univ fun c : Dev nD => toks c := by
    unfold ringToks; rw [bigSep_map, bigSep_univ_prod]
    exact bigSep_mono fun c _ => toks_of_minted c
  iintro HX
  imod (Rounds.fund ER (rd m) ringCells ringToks) $$ HX with ⟨Hst, Hr, Hat, Htok⟩
  imodintro
  ihave Hst' := (Entails.of_eq (hX fun g => roundState ER (rd m) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = iprop(bigSep Finset.univ (fun i : Fin 12 => semVal (sCell i c) 0) ∗ bigSep Finset.univ (fun i : Fin 12 => semVal (rCell i c) 0)) := by
  unfold Pipeline.ownSems0; rw [bigSep_univ_sum]; rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 25 => semVal (kcell (c, k)) 0 : sProp 𝕄) := by
  rw [ownSems0_eq, unscopedSems0_eq, bigSep25]
  simp only [kcell_bar, kcell_s, kcell_r]
  iintro ⟨⟨HS, HV⟩, HB⟩
  isplitl [HB]; · iexact HB
  isplitl [HS] <;> iassumption

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 25 => semVal (kcell (c, k)) 0) ∗ bigSep Finset.univ fun k : Fin 25 => roundState ER (rd m) (kcell (c, k)) 0)
      ⊢ (|={Set.univ}=> bigSep Finset.univ fun k => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- A device and a lane, turned to the device the lane lands on. -/
def hop : Dev nD × Fin 12 ≃ Dev nD × Fin 12 :=
  ⟨fun x => (tgt x.2 x.1, x.2), fun x => (org x.2 x.1, x.2), fun x => Prod.ext (org_tgt x.2 x.1) rfl, fun x => Prod.ext (tgt_org x.2 x.1) rfl⟩

/-- The tokens dealt to the devices that pay with them. -/
theorem toks_around : (bigSep Finset.univ fun c : Dev nD => (toks c : sProp 𝕄)) ⊢
    bigSep Finset.univ fun c : Dev nD => iprop(dutyTok ER (barCell (prv c)) 0 true ∗ dutyTok ER (barCell (nxt c)) 0 false ∗ bigSep Finset.univ (fun i => ltok i c)) := by
  have hr : (bigSep Finset.univ fun c : Dev nD => bigSep Finset.univ fun i : Fin 12 => (dutyTok ER (rCell i c) 0 false : sProp 𝕄))
      = bigSep Finset.univ fun c : Dev nD => bigSep Finset.univ fun i : Fin 12 => dutyTok ER (rCell i (tgt i c)) 0 false := by
    rw [← bigSep_univ_prod (fun x : Dev nD × Fin 12 => (dutyTok ER (rCell x.2 x.1) 0 false : sProp 𝕄)), bigSep_univ_equiv hop, bigSep_univ_prod]
    rfl
  unfold toks ltok
  simp only [bigSep_sep']
  rw [hr, bigSep_univ_equiv ring (fun c : Dev nD => (dutyTok ER (barCell c) 0 false : sProp 𝕄)),
    bigSep_univ_equiv ring.symm (fun c : Dev nD => (dutyTok ER (barCell c) 0 true : sProp 𝕄))]
  iintro ⟨H1, H2, H3, H4⟩
  isplitl [H2]; · iexact H2
  isplitl [H1]; · iexact H1
  isplitl [H3] <;> iassumption

theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (rd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  have hG : ∀ (K : Dev nD × Fin 25 → ℕ) (c : Dev nD),
      iprop(recs m K ∗ ((bigSep Finset.univ fun k : Fin 25 => atPos ER (kcell (c, k)) 0 ∅ 0)
        ∗ dutyTok ER (barCell (prv c)) 0 true ∗ dutyTok ER (barCell (nxt c)) 0 false ∗ bigSep Finset.univ (fun i => ltok i c))) ⊢ (G' m c : sProp 𝕄) := fun K c => by
    rw [bigSep25]
    simp only [kcell_bar, kcell_s, kcell_r]
    unfold G' mine
    iintro ⟨HR, ⟨Ha, HaS, HaR⟩, H1, H2, H3⟩
    iexists K
    isplitl [HR]; · iexact HR
    isplitl [H1]; · iexact H1
    isplitl [H2]; · iexact H2
    isplitl [Ha]; · iexact Ha
    isplitl [H3]; · iexact H3
    isplitl [HaS] <;> iassumption
  rw [bigSep_sep', bigSep_sep', ← bigSep_univ_prod (fun ck : Dev nD × Fin 25 => iprop(∃ κ : ℕ, cellInv ER (rd m) κ (kcell ck))),
    bigSep_congr (s := Finset.univ) (fun (c : Dev nD) _ => bigSep_sep' Finset.univ (fun k : Fin 25 => (atPos ER (kcell (c, k)) 0 ∅ 0 : sProp 𝕄)) (fun k => reached ER (kcell (c, k)) 0)),
    bigSep_sep', ← bigSep_univ_prod (fun ck : Dev nD × Fin 25 => (reached ER (kcell ck) 0 : sProp 𝕄))]
  iintro ⟨HI, ⟨Hat, HR⟩, Htok⟩
  ihave HK := (BI.bigSep_exists_pi Finset.univ (fun (ck : Dev nD × Fin 25) (κ : ℕ) => (cellInv ER (rd m) κ (kcell ck) : sProp 𝕄))) $$ HI
  icases HK with ⟨%K, HI⟩
  ihave Htk := (toks_around (F := F)) $$ Htok
  iapply (bigSep_with_persistent (R := recs m K) fun c _ => hG K c)
  isplitl [HI HR]
  · unfold recs; rw [bigSep_sep']
    isplitl [HI] <;> iassumption
  · iapply (Entails.of_eq (bigSep_sep' Finset.univ (fun c : Dev nD => bigSep Finset.univ fun k : Fin 25 => (atPos ER (kcell (c, k)) 0 ∅ 0 : sProp 𝕄))
      (fun c => iprop(dutyTok ER (barCell (prv c)) 0 true ∗ dutyTok ER (barCell (nxt c)) 0 false ∗ bigSep Finset.univ (fun i => ltok i c)))).symm)
    isplitl [Hat] <;> iassumption

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem bar_eq_iff {a b : Dev nD} : Iff (barCell a = barCell b) (a = b) :=
  ⟨fun h => Fin.ext (congrArg (fun g : GSem nD τ sig => g.1.1.val) h), fun h => h ▸ rfl⟩
theorem r_eq_iff {i j : Fin 12} {a b : Dev nD} : Iff (rCell i a = rCell j b) (i = j ∧ a = b) :=
  ⟨fun h => ⟨by
      have h' := congrArg laneOf (SemLoc.dma.inj (congrArg Prod.snd h))
      rwa [laneOf_r, laneOf_r] at h', Fin.ext (congrArg (fun g : GSem nD τ sig => g.1.1.val) h)⟩, fun h => by rw [h.1, h.2]⟩
theorem r_ne_bar {i : Fin 12} {a b : Dev nD} : rCell i a ≠ barCell b := fun h => by cases congrArg Prod.snd h

/-- What `d` owes on lane `i`'s landing at `c` while `k` lanes are unsent. -/
theorem owesR_r (d c : Dev nD) (i : Fin 12) : ∀ k : ℕ, k ≤ 12 → owesR d k (rCell i c) () = if 12 ≤ i.val + k ∧ d = org i c then N else 0
  | 0, _ => by
    rw [if_neg (fun h => absurd h.1 (by have := i.isLt; omega))]; rfl
  | k + 1, hk => by
    unfold owesR
    rw [Pi.add_apply, Finsupp.add_apply, owesR_r d c i k (by omega), tallyAt_apply]
    by_cases hd : d = org i c
    · by_cases hi : i = lastLane k
      · have hv : i.val = 11 - k := by rw [hi]; simp only [lastLane]; omega
        rw [if_neg (fun h => absurd h.1 (by omega)), if_pos ⟨r_eq_iff.mpr ⟨hi, by rw [← hi, hd, tgt_org]⟩, rfl⟩, if_pos ⟨by omega, hd⟩, Nat.zero_add]
      · have hv : i.val ≠ 11 - k := fun e => hi (Fin.ext (by simp only [lastLane]; omega))
        rw [if_neg (c := _ ∧ () = ()) (fun h => hi (r_eq_iff.mp h.1).1), Nat.add_zero]
        exact if_congr ⟨fun h => ⟨by omega, h.2⟩, fun h => ⟨by omega, h.2⟩⟩ rfl rfl
    · rw [if_neg (fun h => hd h.2), if_neg (fun h => hd (by
        obtain ⟨h1, h2⟩ := r_eq_iff.mp h.1
        rw [h1, h2, org_tgt])), if_neg (fun h => hd h.2)]

theorem owesR_bar (d c : Dev nD) : owesR d 12 (barCell c) () = 0 := by
  by_contra h
  obtain ⟨i, -, d', e⟩ := owesR_pos 12 le_rfl (Nat.pos_of_ne_zero h)
  exact r_ne_bar e.symm

theorem owed_bar (d c : Dev nD) : O₀ d (barCell c) () = (if d = prv c then 1 else 0) + (if d = nxt c then 1 else 0) := by
  unfold O₀ O₁
  have h0 := owesR_bar d c
  generalize owesR d 12 = X at h0
  rw [Pi.add_apply, Finsupp.add_apply, Pi.add_apply, Finsupp.add_apply, h0, tallyAt_apply, tallyAt_apply, Nat.zero_add]
  congr 1
  · by_cases h : d = prv c
    · subst h; rw [nxt_prv, if_pos ⟨rfl, rfl⟩, if_pos rfl]
    · rw [if_neg (fun ⟨h1, _⟩ => h (by rw [← prv_nxt d]; exact congrArg prv (bar_eq_iff.mp h1).symm)), if_neg h]
  · by_cases h : d = nxt c
    · subst h; rw [prv_nxt, if_pos ⟨rfl, rfl⟩, if_pos rfl]
    · rw [if_neg (fun ⟨h1, _⟩ => h (by rw [← nxt_prv d]; exact congrArg nxt (bar_eq_iff.mp h1).symm)), if_neg h]

theorem owed_r (d c : Dev nD) (i : Fin 12) : O₀ d (rCell i c) () = if d = org i c then N else 0 := by
  unfold O₀ O₁
  have h0 := owesR_r d c i 12 le_rfl
  generalize owesR d 12 = X at h0
  rw [Pi.add_apply, Finsupp.add_apply, Pi.add_apply, Finsupp.add_apply, h0, tallyAt_ne_cell r_ne_bar, tallyAt_ne_cell r_ne_bar,
    Finsupp.zero_apply, Nat.add_zero, Nat.add_zero]
  exact if_congr ⟨fun h => h.2, fun h => ⟨Nat.le_add_left _ _, h⟩⟩ rfl rfl

theorem launch_bar (c : Dev nD) :
    tallyOn (barCell c) (launchCredit (Pipeline.owing O₀) 0 (barCell c)) = (tallyAt (barCell c) () 2 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib,
    Finset.sum_ite_eq' Finset.univ (prv c) fun _ => 1, Finset.sum_ite_eq' Finset.univ (nxt c) fun _ => 1, if_pos (Finset.mem_univ _), if_pos (Finset.mem_univ _)]

theorem launch_r (c : Dev nD) (i : Fin 12) :
    tallyOn (rCell i c) (launchCredit (Pipeline.owing O₀) 0 (rCell i c)) = (tallyAt (rCell i c) () N : CellTallies nD τ sig Unit) := by
  unfold tallyAt; refine congrArg _ (Finsupp.ext fun u => ?_); cases u
  rw [Pipeline.launchCredit_owing, Finsupp.single_eq_same, Finset.sum_congr rfl fun d _ => owed_r d c i, Finset.sum_ite_eq' Finset.univ (org i c) fun _ => N,
    if_pos (Finset.mem_univ _)]

/-- The receive semaphores of the twelve lanes. -/
def rSem : Fin 12 ↪ SemLoc sig := ⟨fun i => .dma (dS (rIx i)), fun i j h => by
  have h' := congrArg laneOf (SemLoc.dma.inj h)
  rwa [laneOf_r, laneOf_r] at h'⟩

theorem creds (c : Dev nD) : (Pipeline.launchCred O₀ c : sProp 𝕄) ⊢ credits c := by
  unfold Pipeline.launchCred credits
  rw [bigSep_univ_at _ (SemLoc.reg barS), launch_bar]
  refine sep_mono_right ?_
  have hsub : Finset.univ.map rSem ⊆ Finset.univ.erase (SemLoc.reg barS : SemLoc sig) := fun x hx => by
    obtain ⟨i, -, rfl⟩ := Finset.mem_map.mp hx
    exact Finset.mem_erase.mpr ⟨(fun h => by cases h), Finset.mem_univ _⟩
  refine (bigSep_subset hsub).trans ?_
  rw [bigSep_map]
  exact bigSep_mono fun i _ => Entails.of_eq (congrArg cred (launch_r c i))

/-! ## The run -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  imodintro
  unfold start
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, H0, H1, H2⟩
  isplitl [Hs]; · iexact Hs
  isplitl [H1 H2]
  · iapply (slots_split c); isplitl [H1] <;> iassumption
  · iapply (own_split c); iexact H0

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ lane1
  rw [bigSep_sep']
  iintro ⟨HzB, Hz, Hland, Hown⟩
  isplitl [HzB]; · iexact HzB
  isplitl [Hz]; · iexact Hz
  isplitl [Hown]
  · iapply (own_join c); iexact Hown
  · iapply (slots_join c); iexact Hland

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with zero counters every weakly fair execution on the four devices ends, each device's arrays at `finalA`, every
    counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## What the arrays end with -/

theorem final_0 (c : Dev nD) : finalA m ρ c (0 : Fin 6) = m ((c : Thread nD τ).loc main_arg0) :=
  (dats (F := F) m ρ 0 c).arrAt_in (0 : Fin 6) rfl _
theorem final_1 (c : Dev nD) : finalA m ρ c (1 : Fin 6) = m ((c : Thread nD τ).loc main_arg1) :=
  (dats (F := F) m ρ 0 c).arrAt_in (1 : Fin 6) rfl _
theorem final_2 (c : Dev nD) : finalA m ρ c (2 : Fin 6) = m ((c : Thread nD τ).loc main_arg2) :=
  (dats (F := F) m ρ 0 c).arrAt_in (2 : Fin 6) rfl _
theorem final_3 (c : Dev nD) : finalA m ρ c (3 : Fin 6) = m ((c : Thread nD τ).loc main_arg3) :=
  (dats (F := F) m ρ 0 c).arrAt_in (3 : Fin 6) rfl _
theorem final_4 (c : Dev nD) : finalA m ρ c (4 : Fin 6) = m ((c : Thread nD τ).loc main_arg4) :=
  (dats (F := F) m ρ 0 c).arrAt_in (4 : Fin 6) rfl _
theorem final_5 (c : Dev nD) : finalA m ρ c (5 : Fin 6) = outAt m c :=
  (dats (F := F) m ρ 0 c).arrAt_eq_of_after_last (5 : Fin 6) t0_0 (by decide +kernel) (outAt m c) (fun _ => rfl)

end Cert.RingProof
-- ==== Proof.Same.lean ====
/-
# The frame of the kernel, from one run

The kernel and the kernel read over the extended reals are one text printed twice. The run is proved once, for the second and at any
float values; here the two bodies are shown to be one function, so that the run is also the first one's.
-/
module

public import proofs.«01_k».proof.Defs
public import proofs.«01_k».proof.Proof.Gen.Kernel
public import proofs.«01_k».proof.Proof.Launch

@[expose] public section
noncomputable section
namespace Cert.RingProof
open Cert.KernelIdeal Cert.KernelIdeal.Gen
open Idealize.ShloMosaic Idealize.ShloMosaic.TcCoe Idealize.SL.Sem

variable {F : FTy → Type} [FloatOps F]
/-- At any float values: every run ends with the five arguments unchanged and every counter at zero. -/
theorem quiet (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨(h.1 c (0 : Fin 6)).trans (final_0 m ρ c), (h.1 c (1 : Fin 6)).trans (final_1 m ρ c),
    (h.1 c (2 : Fin 6)).trans (final_2 m ρ c), (h.1 c (3 : Fin 6)).trans (final_3 m ρ c), (h.1 c (4 : Fin 6)).trans (final_4 m ρ c)⟩, h.2⟩) (run_main m ρ)

universe v in
/-- Two programs that begin alike and go on alike are one program. -/
theorem bind_alike {E : Type → Type v} {α β : Type} {p q : Prog E α} {f g : α → Prog E β} (h : p = q) (h2 : ∀ a, f a = g a) :
    (p >>= f) = (q >>= g) := by rw [h, funext h2]

set_option maxHeartbeats 4000000 in
/-- The two printed bodies are one function: statement by statement, over what each part hands on. -/
theorem body_same : @Cert.Kernel.cc0_body Bits _ _ = @Cert.KernelIdeal.cc0_body Bits _ _ := by
  funext a0 h0 a1 h1 a2 h2 a3 h3 a4 h4 a5 h5 a6 h6 a7 h7 a8 h8 a9 a10 a11 a12
  unfold Cert.Kernel.cc0_body Cert.KernelIdeal.cc0_body
  refine bind_alike rfl (fun ⟨b0, b1, b2, b3⟩ => ?_)
  refine bind_alike rfl (fun _b => ?_)
  refine bind_alike rfl (fun _b => ?_)
  refine bind_alike rfl (fun ⟨b0, b1, b2⟩ => ?_)
  refine bind_alike rfl (fun _b => ?_)
  refine bind_alike rfl (fun _b => ?_)
  refine bind_alike rfl (fun ⟨b0, b1⟩ => ?_)
  refine bind_alike rfl (fun _b => ?_)
  refine bind_alike rfl (fun _b => ?_)
  refine bind_alike rfl (fun _b => ?_)
  refine bind_alike rfl (fun _b => ?_)
  refine bind_alike rfl (fun _b => ?_)
  refine bind_alike rfl (fun ⟨b0, b1⟩ => ?_)
  refine bind_alike rfl (fun ⟨b0, b1⟩ => ?_)
  refine bind_alike rfl (fun _b => ?_)
  refine bind_alike rfl (fun _b => ?_)
  refine bind_alike rfl (fun _b => ?_)
  refine bind_alike rfl (fun _b => ?_)
  refine bind_alike rfl (fun ⟨b0, b1⟩ => ?_)
  rfl
/-- So the two tables of bodies are one. -/
theorem defs₀_same : (Cert.Kernel.defs₀ (F := Bits)) = (Cert.KernelIdeal.defs₀ (F := Bits)) := by
  unfold Cert.Kernel.defs₀ Cert.KernelIdeal.defs₀
  refine congrArg Defs.onTc (funext fun l => funext fun a => ?_)
  match l, a with
  | 0, (t, s) =>
    show @Cert.Kernel.cc0_body Bits _ _ _ _ _ _ _ _ _ _ _ _ _ _ _ _ _ _ _ _ _ _ _ _ = @Cert.KernelIdeal.cc0_body Bits _ _ _ _ _ _ _ _ _ _ _ _ _ _ _ _ _ _ _ _ _ _ _ _
    rw [body_same]

/-- And the two tables with the pipelines around them. -/
theorem defs_same : (Cert.Kernel.defs (F := Bits)) = (Cert.KernelIdeal.defs (F := Bits)) :=
  congrArg (Pipeline.defs (Cert.KernelIdeal.pcfgs (F := Bits))) defs₀_same

/-- The kernel as it is: every run on the four devices ends with the arguments unchanged and every counter at zero. -/
theorem frame_kernel : Cert.quiescent_Kernel := fun m ρ _ => by
  have h := quiet (F := Bits) m ρ
  rw [← defs_same] at h
  exact h
end Cert.RingProof
-- ==== Proof.Router.lean ====
/-
# One token, over the extended reals

What one token asks of the layer, written of plain functions: its scores against the sixteen experts, the softmax of those scores, the gate
that is one at the token's own expert and zero at every other, and the two ways of putting the gated expert product together. The kernel
scales the token by its gated probability before each of sixteen products and sums them all; the reference makes one product with the
token's own expert and scales that. Where the probability is a nonnegative real the two agree, whatever the expert weights are.
-/
module

public import Idealize.ShloMosaic.Lib.Pointwise
public import Idealize.ShloMosaic.Lib.KernelVsHost

@[expose] public section

noncomputable section

namespace Cert.RingProof

open Idealize.ShloMosaic

/-! ## Scores and probabilities -/

/-- The token's score against expert `e`. -/
def score (x : Fin 256 → EReal) (R : Fin 256 → Fin 16 → EReal) (e : Fin 16) : EReal := ∑ k, x k * R k e

/-- The exponential of the score's distance to the greatest score. -/
def weight (x : Fin 256 → EReal) (R : Fin 256 → Fin 16 → EReal) (e : Fin 16) : EReal :=
  Ideal.exp (score x R e - Finset.fold max (Ideal.ofBits .f32 0xFF800000#32) (score x R) Finset.univ)

/-- The softmax of the scores. -/
def prob (x : Fin 256 → EReal) (R : Fin 256 → Fin 16 → EReal) (e : Fin 16) : EReal :=
  Ideal.div (weight x R e) (∑ e', weight x R e')

/-- A value that is a real number. -/
def IsReal (a : EReal) : Prop := ∃ r : ℝ, a = (r : EReal)

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem isReal_sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    obtain ⟨r, hr⟩ := h a (Finset.mem_insert_self a s)
    obtain ⟨q, hq⟩ := ih fun i hi => h i (Finset.mem_insert_of_mem hi)
    exact ⟨r + q, by rw [Finset.sum_insert ha, hr, hq, EReal.coe_add]⟩

theorem isReal_of_ne {a : EReal} (h1 : a ≠ ⊥) (h2 : a ≠ ⊤) : IsReal a := ⟨a.toReal, (EReal.coe_toReal h2 h1).symm⟩

theorem isReal_score {x : Fin 256 → EReal} {R : Fin 256 → Fin 16 → EReal} (hx : ∀ k, IsReal (x k)) (hR : ∀ k e, IsReal (R k e)) (e : Fin 16) :
    IsReal (score x R e) := isReal_sum _ _ fun k _ => (hx k).mul (hR k e)

/-- The pattern the maximum starts from is minus infinity. -/
theorem ofBits_bot : Ideal.ofBits .f32 0xFF800000#32 = ⊥ := by
  show Ideal.ieee 8 23 (0xFF800000#32) = ⊥
  simp [Ideal.ieee]

/-- The pattern a finite magnitude is below is infinity. -/
theorem ofBits_top : Ideal.ofBits .f32 0x7F800000#32 = ⊤ := by
  show Ideal.ieee 8 23 (0x7F800000#32) = ⊤
  simp [Ideal.ieee]

/-- The greatest of real scores is real. -/
theorem isReal_max {s : Fin 16 → EReal} (hs : ∀ e, IsReal (s e)) :
    IsReal (Finset.fold max (Ideal.ofBits .f32 0xFF800000#32) s Finset.univ) := by
  rw [ofBits_bot]
  refine isReal_of_ne (fun h => ?_) (ne_of_lt ((Finset.fold_max_lt _).2 ⟨bot_lt_top, fun e _ => ?_⟩))
  · obtain ⟨r, hr⟩ := hs 0
    have h1 : s 0 ≤ Finset.fold max ⊥ s Finset.univ := Finset.le_fold_max _ |>.2 (Or.inr ⟨0, Finset.mem_univ _, le_refl _⟩)
    rw [h, hr] at h1
    exact absurd (lt_of_lt_of_le (EReal.bot_lt_coe r) h1) (lt_irrefl _)
  · obtain ⟨r, hr⟩ := hs e
    rw [hr]
    exact EReal.coe_lt_top r

/-- A weight is a positive real. -/
theorem weight_pos {x : Fin 256 → EReal} {R : Fin 256 → Fin 16 → EReal} (hx : ∀ k, IsReal (x k)) (hR : ∀ k e, IsReal (R k e)) (e : Fin 16) :
    ∃ r : ℝ, 0 < r ∧ weight x R e = (r : EReal) := by
  obtain ⟨s, hs⟩ := isReal_score hx hR e
  obtain ⟨m, hm⟩ := isReal_max (isReal_score hx hR)
  exact ⟨Real.exp (s - m), Real.exp_pos _, by rw [weight, hm, hs, ← EReal.coe_sub, Ideal.exp_coe]⟩

theorem sum_pos_real {n : ℕ} (f : Fin (n + 1) → EReal) (h : ∀ i, ∃ r : ℝ, 0 < r ∧ f i = (r : EReal)) :
    ∃ r : ℝ, 0 < r ∧ ∑ i, f i = (r : EReal) := by
  choose g hg using h
  refine ⟨∑ i, g i, Finset.sum_pos (fun i _ => (hg i).1) ⟨0, Finset.mem_univ _⟩, ?_⟩
  obtain ⟨q, hq⟩ := isReal_sum Finset.univ f fun i _ => ⟨g i, (hg i).2⟩
  have key : ∀ s : Finset (Fin (n + 1)), ∑ i ∈ s, f i = ((∑ i ∈ s, g i : ℝ) : EReal) := fun s => by
    classical
    induction s using Finset.induction_on with
    | empty => simp
    | insert a s ha ih => rw [Finset.sum_insert ha, Finset.sum_insert ha, ih, (hg a).2, EReal.coe_add]
  exact key _

/-- A probability is a nonnegative real. -/
theorem prob_real {x : Fin 256 → EReal} {R : Fin 256 → Fin 16 → EReal} (hx : ∀ k, IsReal (x k)) (hR : ∀ k e, IsReal (R k e)) (e : Fin 16) :
    0 ≤ prob x R e ∧ prob x R e ≠ ⊤ := by
  obtain ⟨r, hr, h1⟩ := weight_pos hx hR e
  obtain ⟨q, hq, h2⟩ := sum_pos_real (weight x R) (weight_pos hx hR)
  rw [prob, h1, h2, Ideal.div_coe hq.ne', ← EReal.coe_mul]
  exact ⟨EReal.coe_nonneg.2 (mul_nonneg hr.le (one_div_nonneg.2 hq.le)), EReal.coe_ne_top _⟩

/-! ## The gate -/

/-- One where the token's index `w` is the expert's number `e`, zero elsewhere, as the kernel makes it from the comparison's bit. -/
def gate (w e : BitVec 32) : EReal :=
  FloatOps.sitofp (F := Ideal) FTy.f32 (BitVec.setWidth 32 (IntOp.cmpi CmpIPredicate.eq w e))

theorem gate_self (w : BitVec 32) : gate w w = 1 := by
  have h : IntOp.cmpi CmpIPredicate.eq w w = 1#1 := by simp [IntOp.cmpi]
  unfold gate
  rw [h]
  show (((BitVec.setWidth 32 1#1).toInt : ℝ) : EReal) = 1
  rw [show (BitVec.setWidth 32 1#1).toInt = 1 from by decide]
  simp

theorem gate_ne {w e : BitVec 32} (h : w ≠ e) : gate w e = 0 := by
  have h : IntOp.cmpi CmpIPredicate.eq w e = 0#1 := by
    show BitVec.ofBool (w == e) = 0#1
    rw [beq_false_of_ne h]; rfl
  unfold gate
  rw [h]
  show (((BitVec.setWidth 32 0#1).toInt : ℝ) : EReal) = 0
  rw [show (BitVec.setWidth 32 0#1).toInt = 0 from by decide]
  simp

theorem gate_comm (w e : BitVec 32) : gate w e = gate e w := by
  by_cases h : w = e
  · rw [h]
  · rw [gate_ne h, gate_ne (Ne.symm h)]

/-- The word of a number below sixteen is `w` exactly when the number is `w`'s. -/
theorem word_inj {w : BitVec 32} (h : w.toNat < 16) (e : Fin 16) (he : w = BitVec.ofNat 32 e.val) : e = ⟨w.toNat, h⟩ := by
  apply Fin.ext
  have h1 := e.isLt
  have h2 : w.toNat = e.val := by rw [he, BitVec.toNat_ofNat]; exact Nat.mod_eq_of_lt (by omega)
  exact h2.symm

theorem word_out {w : BitVec 32} (h : ¬ w.toNat < 16) (e : Fin 16) : w ≠ BitVec.ofNat 32 e.val := fun he => h (by
  have h1 := e.isLt
  rw [he, BitVec.toNat_ofNat, Nat.mod_eq_of_lt (by omega)]
  exact h1)

theorem word_in {w : BitVec 32} (h : w.toNat < 16) : w = BitVec.ofNat 32 (⟨w.toNat, h⟩ : Fin 16).val := by
  simp

/-- Of sixteen gated values only the token's own is left. -/
theorem sum_gate (f : Fin 16 → EReal) (w : BitVec 32) :
    ∑ e : Fin 16, f e * gate (BitVec.ofNat 32 e.val) w = if h : w.toNat < 16 then f ⟨w.toNat, h⟩ else 0 := by
  split
  · rename_i h
    rw [Finset.sum_eq_single_of_mem (⟨w.toNat, h⟩ : Fin 16) (Finset.mem_univ _) fun e _ he => by
      rw [gate_ne fun hh => he (word_inj h e hh.symm), mul_zero]]
    rw [← word_in h, gate_self, mul_one]
  · rename_i h
    exact Finset.sum_eq_zero fun e _ => by rw [gate_ne (word_out h e).symm, mul_zero]

/-! ## The gated product -/

/-- The product with one expert's column, the token scaled by its gated probability first. -/
def part (x : Fin 256 → EReal) (p : EReal) (w e : BitVec 32) (W : Fin 256 → EReal) : EReal := ∑ k, x k * (p * gate w e) * W k

theorem part_ne (x : Fin 256 → EReal) (p : EReal) {w e : BitVec 32} (W : Fin 256 → EReal) (h : w ≠ e) : part x p w e W = 0 :=
  Finset.sum_eq_zero fun k _ => by rw [gate_ne h, mul_zero, mul_zero, zero_mul]

theorem sum_scale {ι : Type} (s : Finset ι) (p : EReal) (h0 : 0 ≤ p) (h1 : p ≠ ⊤) (f : ι → EReal) : ∑ i ∈ s, p * f i = p * ∑ i ∈ s, f i := by
  classical
  induction s using Finset.induction_on with
  | empty => simp
  | insert a s ha ih => rw [Finset.sum_insert ha, Finset.sum_insert ha, ih, EReal.left_distrib_of_nonneg_of_ne_top h0 h1]

theorem part_self (x : Fin 256 → EReal) (p : EReal) (h0 : 0 ≤ p) (h1 : p ≠ ⊤) (w : BitVec 32) (W : Fin 256 → EReal) :
    part x p w w W = p * ∑ k, x k * W k := by
  rw [part, ← sum_scale _ p h0 h1]
  refine Finset.sum_congr rfl fun k _ => ?_
  rw [gate_self, mul_one, mul_comm (x k) p, mul_assoc]

/-- THE EQUATION: the sixteen gated products of a token whose gated probability is read off the softmax sum to the probability of its own
    expert times one product, and to zero when its index names no expert. -/
theorem sum_part {x : Fin 256 → EReal} {R : Fin 256 → Fin 16 → EReal} (hx : ∀ k, IsReal (x k)) (hR : ∀ k e, IsReal (R k e)) (w : BitVec 32)
    (W : Fin 16 → Fin 256 → EReal) :
    ∑ e : Fin 16, part x (∑ e' : Fin 16, prob x R e' * gate (BitVec.ofNat 32 e'.val) w) w (BitVec.ofNat 32 e.val) (W e)
      = if h : w.toNat < 16 then prob x R ⟨w.toNat, h⟩ * ∑ k, x k * W ⟨w.toNat, h⟩ k else 0 := by
  rw [sum_gate]
  split
  · rename_i h
    rw [Finset.sum_eq_single_of_mem (⟨w.toNat, h⟩ : Fin 16) (Finset.mem_univ _) fun e _ he =>
      part_ne _ _ _ fun hh => he (word_inj h e hh)]
    rw [← word_in h, part_self _ _ (prob_real hx hR _).1 (prob_real hx hR _).2]
  · rename_i h
    exact Finset.sum_eq_zero fun e _ => part_ne _ _ _ (word_out h e)

end Cert.RingProof

end
-- ==== Proof.KernelValue.lean ====
/-
# What the kernel computes

The accumulator the body leaves, read at a token and a column: the shared product and sixteen gated expert products, four with the
device's own blocks and twelve with the blocks the lanes bring. Every device meets each of the sixteen experts once, so the sum is the one
over all experts, in whatever order the ring brought them.
-/
module

public import proofs.«01_k».proof.Proof.Body
public import proofs.«01_k».proof.Proof.Router

@[expose] public section

noncomputable section

namespace Cert.RingProof

open Cert.KernelIdeal Cert.KernelIdeal.Gen
open Idealize.ShloMosaic Idealize.ShloMosaic.TcCoe

/-! ## One step of the accumulator -/

section Steps

variable (X : FVec Ideal S512x256 .f32) (I : IVec S512x1 32) (P : FVec Ideal S512x1 .f32) (A : FVec Ideal S512x512 .f32)
  (W : Vec Ideal S1x256x512 .f32) (V : Vec Ideal S256x512 .bf16) (v : BitVec 32) (t f : Fin 512)

/-- The gated product of token `t` with column `f` of a block. -/
abbrev term (e : BitVec 32) (w : Fin 256 → EReal) : EReal := part (fun k => X (ix2 t k)) (P (ix2 t 0)) (I (ix2 t 0)) e w

set_option maxRecDepth 16384

theorem pay10_apply : k0_pay10 v X I P A W (ix2 t f)
    = (A (ix2 t f) + term X I P t (Scalar.addi (Scalar.muli v 4#32) 0#32) fun k => W (ix3 0 k f) : EReal) := by
  pointwise [k0_pay10]
  rfl

theorem pay11_apply : k0_pay11 v X I P A W (ix2 t f)
    = (A (ix2 t f) + term X I P t (Scalar.addi (Scalar.muli v 4#32) 1#32) fun k => W (ix3 0 k f) : EReal) := by
  pointwise [k0_pay11]
  rfl

theorem pay12_apply : k0_pay12 v X I P A W (ix2 t f)
    = (A (ix2 t f) + term X I P t (Scalar.addi (Scalar.muli v 4#32) 2#32) fun k => W (ix3 0 k f) : EReal) := by
  pointwise [k0_pay12]
  rfl

theorem pay13_apply : k0_pay13 v X I P A W (ix2 t f)
    = (A (ix2 t f) + term X I P t (Scalar.addi (Scalar.muli v 4#32) 3#32) fun k => W (ix3 0 k f) : EReal) := by
  pointwise [k0_pay13]
  rfl

theorem lane0_apply : k0_pay14 X I P v A V (ix2 t f)
    = (A (ix2 t f) + term X I P t (Scalar.addi (Scalar.muli v 4#32) 0#32) fun k => V (ix2 k f) : EReal) := by
  pointwise [k0_pay14]
  rfl

theorem lane1_apply : k0_pay16 (k0_pay15 X I P v) A V (ix2 t f)
    = (A (ix2 t f) + term X I P t (Scalar.addi (Scalar.addi (Scalar.muli v 4#32) 2#32) 0#32) fun k => V (ix2 k f) : EReal) := by
  pointwise [k0_pay16, k0_pay15]
  rfl

theorem lane2_apply : k0_pay18 X P (k0_pay17 I v) A V (ix2 t f)
    = (A (ix2 t f) + term X I P t (Scalar.addi (Scalar.muli v 4#32) 1#32) fun k => V (ix2 k f) : EReal) := by
  pointwise [k0_pay18, k0_pay17]
  rfl

theorem lane3_apply : k0_pay19 X I P v A V (ix2 t f)
    = (A (ix2 t f) + term X I P t (Scalar.addi (Scalar.addi (Scalar.muli v 4#32) 2#32) 1#32) fun k => V (ix2 k f) : EReal) := by
  pointwise [k0_pay19]
  rfl

theorem lane4_apply : k0_pay20 X I P v A V (ix2 t f)
    = (A (ix2 t f) + term X I P t (Scalar.addi (Scalar.muli v 4#32) 0#32) fun k => V (ix2 k f) : EReal) := by
  pointwise [k0_pay20]
  rfl

theorem lane5_apply : k0_pay22 (k0_pay21 X I P v) A V (ix2 t f)
    = (A (ix2 t f) + term X I P t (Scalar.addi (Scalar.addi (Scalar.muli v 4#32) 2#32) 0#32) fun k => V (ix2 k f) : EReal) := by
  pointwise [k0_pay22, k0_pay21]
  rfl

theorem lane6_apply : k0_pay23 X I P v A V (ix2 t f)
    = (A (ix2 t f) + term X I P t (v) fun k => V (ix2 k f) : EReal) := by
  pointwise [k0_pay23]
  rfl

theorem lane7_apply : k0_pay24 X I P v A V (ix2 t f)
    = (A (ix2 t f) + term X I P t (Scalar.addi (Scalar.addi (Scalar.muli v 4#32) 2#32) 1#32) fun k => V (ix2 k f) : EReal) := by
  pointwise [k0_pay24]
  rfl

theorem lane8_apply : k0_pay25 X I P v A V (ix2 t f)
    = (A (ix2 t f) + term X I P t (Scalar.addi (Scalar.muli v 4#32) 0#32) fun k => V (ix2 k f) : EReal) := by
  pointwise [k0_pay25]
  rfl

theorem lane9_apply : k0_pay26 X I P v A V (ix2 t f)
    = (A (ix2 t f) + term X I P t (Scalar.addi (Scalar.addi (Scalar.muli v 4#32) 2#32) 0#32) fun k => V (ix2 k f) : EReal) := by
  pointwise [k0_pay26]
  rfl

theorem lane10_apply : k0_pay27 X I P v A V (ix2 t f)
    = (A (ix2 t f) + term X I P t (Scalar.addi (Scalar.muli v 4#32) 1#32) fun k => V (ix2 k f) : EReal) := by
  pointwise [k0_pay27]
  rfl

theorem lane11_apply : k0_pay29 X P (k0_pay28 I v) A V (ix2 t f)
    = (A (ix2 t f) + term X I P t (Scalar.addi (Scalar.addi (Scalar.muli v 4#32) 2#32) 1#32) fun k => V (ix2 k f) : EReal) := by
  pointwise [k0_pay29, k0_pay28]
  rfl

theorem pay9_apply (S : Vec Ideal S256x512 .f32) : k0_pay9 X S (ix2 t f) = (∑ k, X (ix2 t k) * S (ix2 k f) : EReal) := by
  pointwise [k0_pay9]

theorem pay8_apply (R : Vec Ideal S256x16 .f32) (J : Vec Ideal S512x1 .i32) : k0_pay8 X R J (ix2 t 0)
    = (∑ e : Fin 16, prob (fun k => X (ix2 t k)) (fun k e => R (ix2 k e)) e * gate (BitVec.ofNat 32 e.val) (J (ix2 t 0)) : EReal) := by
  pointwise [k0_pay8, k0_pay6, k0_pay7]
  rfl

theorem pay4_apply (k : Fin 256) : k0_pay4 W (ix2 k f) = W (ix3 0 k f) := by
  pointwise [k0_pay4]

theorem pay6_eq (Y : Vec Ideal S512x256 .f32) : k0_pay6 Y = Y := by
  funext j
  idx_vars j
  pointwise [k0_pay6]

theorem pay7_eq (J : Vec Ideal S512x1 .i32) : k0_pay7 (F := Ideal) J = J := by
  funext j
  idx_vars j
  pointwise [k0_pay7]

end Steps

/-! ## The words name each expert once -/

/-- The number of block `k` of device `d` among all experts. -/
def expertNo (d : Dev nD) (k : Fin 4) : Fin 16 := ⟨4 * d.val + k.val, by have := d.isLt; have := k.isLt; simp only [nD] at *; omega⟩

theorem own_word : ∀ (c : Dev nD) (k : Fin 4),
    Scalar.addi (Scalar.muli (w2 c) 4#32) (BitVec.ofNat 32 k.val) = BitVec.ofNat 32 (expertNo c k).val := by decide

theorem word0 : ∀ c : Dev nD, Scalar.addi (Scalar.muli (wL 0 (w2 c)) 4#32) 0#32 = BitVec.ofNat 32 (expertNo (srcD 0 c) (blkK 0)).val := by decide
theorem word1 : ∀ c : Dev nD, Scalar.addi (Scalar.addi (Scalar.muli (wR 0 (w2 c)) 4#32) 2#32) 0#32 = BitVec.ofNat 32 (expertNo (srcD 1 c) (blkK 1)).val := by decide
theorem word2 : ∀ c : Dev nD, Scalar.addi (Scalar.muli (wL 0 (w2 c)) 4#32) 1#32 = BitVec.ofNat 32 (expertNo (srcD 2 c) (blkK 2)).val := by decide
theorem word3 : ∀ c : Dev nD, Scalar.addi (Scalar.addi (Scalar.muli (wR 0 (w2 c)) 4#32) 2#32) 1#32 = BitVec.ofNat 32 (expertNo (srcD 3 c) (blkK 3)).val := by decide
theorem word4 : ∀ c : Dev nD, Scalar.addi (Scalar.muli (wL 1 (w2 c)) 4#32) 0#32 = BitVec.ofNat 32 (expertNo (srcD 4 c) (blkK 4)).val := by decide
theorem word5 : ∀ c : Dev nD, Scalar.addi (Scalar.addi (Scalar.muli (wR 1 (w2 c)) 4#32) 2#32) 0#32 = BitVec.ofNat 32 (expertNo (srcD 5 c) (blkK 5)).val := by decide
theorem word6 : ∀ c : Dev nD, Scalar.addi (Scalar.muli (wL 1 (w2 c)) 4#32) 1#32 = BitVec.ofNat 32 (expertNo (srcD 6 c) (blkK 6)).val := by decide
theorem word7 : ∀ c : Dev nD, Scalar.addi (Scalar.addi (Scalar.muli (wR 1 (w2 c)) 4#32) 2#32) 1#32 = BitVec.ofNat 32 (expertNo (srcD 7 c) (blkK 7)).val := by decide
theorem word8 : ∀ c : Dev nD, Scalar.addi (Scalar.muli (wL 2 (w2 c)) 4#32) 0#32 = BitVec.ofNat 32 (expertNo (srcD 8 c) (blkK 8)).val := by decide
theorem word9 : ∀ c : Dev nD, Scalar.addi (Scalar.addi (Scalar.muli (wR 2 (w2 c)) 4#32) 2#32) 0#32 = BitVec.ofNat 32 (expertNo (srcD 9 c) (blkK 9)).val := by decide
theorem word10 : ∀ c : Dev nD, Scalar.addi (Scalar.muli (wL 2 (w2 c)) 4#32) 1#32 = BitVec.ofNat 32 (expertNo (srcD 10 c) (blkK 10)).val := by decide
theorem word11 : ∀ c : Dev nD, Scalar.addi (Scalar.addi (Scalar.muli (wR 2 (w2 c)) 4#32) 2#32) 1#32 = BitVec.ofNat 32 (expertNo (srcD 11 c) (blkK 11)).val := by decide

/-- Sixteen terms, in the order in which a device meets the experts, sum to the sum over the experts. -/
theorem sum_experts (g : Fin 16 → EReal) (s : EReal) : ∀ c : Dev nD,
    s + g (expertNo c 0) + g (expertNo c 1) + g (expertNo c 2) + g (expertNo c 3)
      + g (expertNo (srcD 0 c) (blkK 0))
      + g (expertNo (srcD 1 c) (blkK 1))
      + g (expertNo (srcD 2 c) (blkK 2))
      + g (expertNo (srcD 3 c) (blkK 3))
      + g (expertNo (srcD 4 c) (blkK 4))
      + g (expertNo (srcD 5 c) (blkK 5))
      + g (expertNo (srcD 6 c) (blkK 6))
      + g (expertNo (srcD 7 c) (blkK 7))
      + g (expertNo (srcD 8 c) (blkK 8))
      + g (expertNo (srcD 9 c) (blkK 9))
      + g (expertNo (srcD 10 c) (blkK 10))
      + g (expertNo (srcD 11 c) (blkK 11))
      = s + ∑ e, g e := by
  intro c
  have h : ∑ e, g e = g 0 + g 1 + g 2 + g 3 + g 4 + g 5 + g 6 + g 7 + g 8 + g 9 + g 10 + g 11 + g 12 + g 13 + g 14 + g 15 := by
    simp only [Fin.sum_univ_succ, Finset.univ_unique, Finset.sum_singleton, add_assoc]
    rfl
  rw [h]
  fin_cases c
  · show s + g 0 + g 1 + g 2 + g 3 + g 12 + g 6 + g 13 + g 7 + g 8 + g 10 + g 9 + g 11 + g 4 + g 14 + g 5 + g 15 = _
    abel
  · show s + g 4 + g 5 + g 6 + g 7 + g 0 + g 10 + g 1 + g 11 + g 12 + g 14 + g 13 + g 15 + g 8 + g 2 + g 9 + g 3 = _
    abel
  · show s + g 8 + g 9 + g 10 + g 11 + g 4 + g 14 + g 5 + g 15 + g 0 + g 2 + g 1 + g 3 + g 12 + g 6 + g 13 + g 7 = _
    abel
  · show s + g 12 + g 13 + g 14 + g 15 + g 8 + g 2 + g 9 + g 3 + g 4 + g 6 + g 5 + g 7 + g 0 + g 10 + g 1 + g 11 = _
    abel

/-! ## The accumulator -/

/-- THE KERNEL AT A TOKEN AND A COLUMN, before the algebra: the shared product and the gated products with all sixteen experts, where
    `G` holds column `f` of every expert. -/
theorem b11_apply (m : (ℓ : Loc nD τ sig) → Buf (Elt Ideal) ℓ) (c : Dev nD) (X : Vec Ideal S512x256 .f32) (R : Vec Ideal S256x16 .f32)
    (I : Vec Ideal S512x1 .i32) (S : Vec Ideal S256x512 .f32) (t f : Fin 512) (G : Fin 16 → Fin 256 → EReal)
    (hG : ∀ (d : Dev nD) (k : Fin 4) (r : Fin 256), ewLd m d k (ix3 0 r f) = G (expertNo d k) r) :
    b11 m c X R I S (ix2 t f)
      = (∑ k, X (ix2 t k) * S (ix2 k f)
        + ∑ e : Fin 16, part (fun k => X (ix2 t k))
            (∑ e' : Fin 16, prob (fun k => X (ix2 t k)) (fun k e => R (ix2 k e)) e' * gate (BitVec.ofNat 32 e'.val) (I (ix2 t 0)))
            (I (ix2 t 0)) (BitVec.ofNat 32 e.val) (G e) : EReal) := by
  have hC : ∀ (i : Fin 12) (r : Fin 256), cont m i c (ix2 r f) = G (expertNo (srcD i c) (blkK i)) r := fun i r => by
    rw [← hG]; exact pay4_apply _ _ _
  have h0 : Scalar.addi (Scalar.muli (w2 c) 4#32) 0#32 = BitVec.ofNat 32 (expertNo c 0).val := own_word c 0
  have h1 : Scalar.addi (Scalar.muli (w2 c) 4#32) 1#32 = BitVec.ofNat 32 (expertNo c 1).val := own_word c 1
  have h2 : Scalar.addi (Scalar.muli (w2 c) 4#32) 2#32 = BitVec.ofNat 32 (expertNo c 2).val := own_word c 2
  have h3 : Scalar.addi (Scalar.muli (w2 c) 4#32) 3#32 = BitVec.ofNat 32 (expertNo c 3).val := own_word c 3
  unfold b11 b10 b9 b8 b7 b6 b5 b4 b3 b2 b1 b0 a3 a1 a0
  rw [lane11_apply, word11]
  rw [lane10_apply, word10]
  rw [lane9_apply, word9]
  rw [lane8_apply, word8]
  rw [lane7_apply, word7]
  rw [lane6_apply, word6]
  rw [lane5_apply, word5]
  rw [lane4_apply, word4]
  rw [lane3_apply, word3]
  rw [lane2_apply, word2]
  rw [lane1_apply, word1]
  rw [lane0_apply, word0]
  rw [pay13_apply, pay12_apply, pay11_apply, pay10_apply, pay9_apply, h0, h1, h2, h3]
  simp only [hC, hG, term]
  rw [pay8_apply, pay6_eq, pay7_eq]
  exact sum_experts (fun e => part (fun k => X (ix2 t k))
    (∑ e' : Fin 16, prob (fun k => X (ix2 t k)) (fun k e => R (ix2 k e)) e' * gate (BitVec.ofNat 32 e'.val) (I (ix2 t 0)))
    (I (ix2 t 0)) (BitVec.ofNat 32 e.val) (G e)) (∑ k, X (ix2 t k) * S (ix2 k f)) c

end Cert.RingProof

end
-- ==== Proof.RefValue.lean ====
/-
# What the reference computes

The reference's one composed term, read at a token and a column: the shared product, and, where the token's index names an expert, the
softmax probability of that expert times the product with its weights. An index outside the sixteen experts leaves the shared product: the
reference fills both the probability and the weights it looks up with zero there. (A negative index down to minus sixteen does find a
probability, as negative indices count from the end, but finds no weights.)
-/
module

public import proofs.«01_k».proof.Proof.Gen.ReferenceIdeal
public import proofs.«01_k».proof.Proof.Gen.ReferenceIdeal.Run
public import proofs.«01_k».proof.Proof.Router
public import Idealize.ShloMosaic.Lib.Pointwise
public import Idealize.ShloMosaic.Lib.Tactic.CleanTypes

@[expose] public section

noncomputable section

namespace Cert.RingProof
open Cert.ReferenceIdeal Cert.ReferenceIdeal.Gen Idealize.ShloMosaic Idealize.ShloMosaic.TcCoe

/-! ## The two lookups at an index -/

/-- The probability looked up is the one at the index, held inside the row. -/
theorem gather_prob (x : FVec Ideal S2048x16 .f32) (idx : IVec S2048x1x1 32) (t : Fin 2048) :
    Host.gather gather_S2048x16_S2048x1x1_S2048x1_n_1_0_0_1_2_11 x idx (ix2 t 0)
      = x (ix2 t ⟨min (idx (ix3 t 0 0)).toInt.toNat 15, by omega⟩) := by
  unfold Host.gather
  refine congrArg x (funext fun a => Fin.ext ?_)
  match a with
  | ⟨0, _⟩ =>
    show GatherDims.start gather_S2048x16_S2048x1x1_S2048x1_n_1_0_0_1_2_11 (ix2 t 0) idx (0 : Fin 2) + GatherDims.batchCoord gather_S2048x16_S2048x1x1_S2048x1_n_1_0_0_1_2_11 (ix2 t 0) (0 : Fin 2) + GatherDims.offCoord gather_S2048x16_S2048x1x1_S2048x1_n_1_0_0_1_2_11 (ix2 t 0) (0 : Fin 2) = t.val
    rw [GatherDims.start_batching _ _ _ _ (by decide), GatherDims.offCoord_eq_zero _ _ _ (by decide), Nat.zero_add, Nat.add_zero]
    unfold GatherDims.batchCoord
    rw [dif_pos (by decide)]
    rfl
  | ⟨1, _⟩ =>
    show GatherDims.start gather_S2048x16_S2048x1x1_S2048x1_n_1_0_0_1_2_11 (ix2 t 0) idx (1 : Fin 2) + GatherDims.batchCoord gather_S2048x16_S2048x1x1_S2048x1_n_1_0_0_1_2_11 (ix2 t 0) (1 : Fin 2) + GatherDims.offCoord gather_S2048x16_S2048x1x1_S2048x1_n_1_0_0_1_2_11 (ix2 t 0) (1 : Fin 2) = min (idx (ix3 t 0 0)).toInt.toNat 15
    rw [GatherDims.batchCoord_eq_zero _ _ _ (by decide), GatherDims.offCoord_eq_zero _ _ _ (by decide)]
    unfold GatherDims.start
    rw [dif_pos (by decide)]
    have hsi : gather_S2048x16_S2048x1x1_S2048x1_n_1_0_0_1_2_11.siIdx (ix2 t 0) ⟨List.idxOf (1 : Fin 2) gather_S2048x16_S2048x1x1_S2048x1_n_1_0_0_1_2_11.startIndexMap,
      List.idxOf_lt_length_iff.2 (by decide)⟩ = ix3 t 0 0 := by
      funext b; refine Fin.ext ?_
      match b with
      | ⟨0, _⟩ => rfl
      | ⟨1, _⟩ => rfl
      | ⟨2, _⟩ => rfl
    rw [hsi]
    rfl

/-- The weights looked up are those at the index, held inside the sixteen experts. -/
theorem gather_expert (x : FVec Ideal S16x256x512 .f32) (idx : IVec S2048x1 32) (t : Fin 2048) (k : Fin 256) (f : Fin 512) :
    Host.gather gather_S16x256x512_S2048x1_S2048x256x512_12_0_n_n_0_1_1256512 x idx (ix3 t k f)
      = x (ix3 ⟨min (idx (ix2 t 0)).toInt.toNat 15, by omega⟩ k f) := by
  unfold Host.gather
  refine congrArg x (funext fun a => Fin.ext ?_)
  match a with
  | ⟨0, _⟩ =>
    show GatherDims.start gather_S16x256x512_S2048x1_S2048x256x512_12_0_n_n_0_1_1256512 (ix3 t k f) idx (0 : Fin 3) + GatherDims.batchCoord gather_S16x256x512_S2048x1_S2048x256x512_12_0_n_n_0_1_1256512 (ix3 t k f) (0 : Fin 3) + GatherDims.offCoord gather_S16x256x512_S2048x1_S2048x256x512_12_0_n_n_0_1_1256512 (ix3 t k f) (0 : Fin 3) = min (idx (ix2 t 0)).toInt.toNat 15
    rw [GatherDims.batchCoord_eq_zero _ _ _ (by decide), GatherDims.offCoord_eq_zero _ _ _ (by decide)]
    unfold GatherDims.start
    rw [dif_pos (by decide)]
    have hsi : gather_S16x256x512_S2048x1_S2048x256x512_12_0_n_n_0_1_1256512.siIdx (ix3 t k f) ⟨List.idxOf (0 : Fin 3) gather_S16x256x512_S2048x1_S2048x256x512_12_0_n_n_0_1_1256512.startIndexMap,
      List.idxOf_lt_length_iff.2 (by decide)⟩ = ix2 t 0 := by
      funext b; refine Fin.ext ?_
      match b with
      | ⟨0, _⟩ => rfl
      | ⟨1, _⟩ => rfl
    rw [hsi]
    rfl
  | ⟨1, _⟩ =>
    show GatherDims.start gather_S16x256x512_S2048x1_S2048x256x512_12_0_n_n_0_1_1256512 (ix3 t k f) idx (1 : Fin 3) + GatherDims.batchCoord gather_S16x256x512_S2048x1_S2048x256x512_12_0_n_n_0_1_1256512 (ix3 t k f) (1 : Fin 3) + GatherDims.offCoord gather_S16x256x512_S2048x1_S2048x256x512_12_0_n_n_0_1_1256512 (ix3 t k f) (1 : Fin 3) = k.val
    rw [GatherDims.batchCoord_eq_zero _ _ _ (by decide)]
    unfold GatherDims.start
    rw [dif_neg (by decide), Nat.add_zero, Nat.zero_add]
    unfold GatherDims.offCoord
    rw [dif_pos (by decide)]
    rfl
  | ⟨2, _⟩ =>
    show GatherDims.start gather_S16x256x512_S2048x1_S2048x256x512_12_0_n_n_0_1_1256512 (ix3 t k f) idx (2 : Fin 3) + GatherDims.batchCoord gather_S16x256x512_S2048x1_S2048x256x512_12_0_n_n_0_1_1256512 (ix3 t k f) (2 : Fin 3) + GatherDims.offCoord gather_S16x256x512_S2048x1_S2048x256x512_12_0_n_n_0_1_1256512 (ix3 t k f) (2 : Fin 3) = f.val
    rw [GatherDims.batchCoord_eq_zero _ _ _ (by decide)]
    unfold GatherDims.start
    rw [dif_neg (by decide), Nat.add_zero, Nat.zero_add]
    unfold GatherDims.offCoord
    rw [dif_pos (by decide)]
    rfl

/-! ## The value -/

/-- A fold over a one-element axis by «and» from one is the element. -/
theorem fold_andi_one (p : Fin 1 → BitVec 1) : Finset.fold IntOp.andi (1#1) p Finset.univ = p 0 := by
  rw [Finset.univ_unique, Finset.fold_singleton]
  show IntOp.andi (p 0) 1#1 = p 0
  rcases BitVec.eq_zero_or_eq_one (p 0) with h | h <;> rw [h] <;> decide

/-- The two comparisons of an index word with the ends of the experts' range. -/
theorem range_in (e : Fin 16) :
    IntOp.cmpi CmpIPredicate.slt (BitVec.ofNat 32 e.val) 0#32 = 0#1
    ∧ IntOp.andi (IntOp.cmpi CmpIPredicate.sge (BitVec.ofNat 32 e.val) 0#32) (IntOp.cmpi CmpIPredicate.sle (BitVec.ofNat 32 e.val) 15#32) = 1#1
    ∧ min (BitVec.ofNat 32 e.val).toInt.toNat 15 = e.val := by
  revert e; decide

/-- Outside the range one of the two fails. -/
theorem range_out {w : BitVec 32} (h : ¬ w.toNat < 16) :
    IntOp.andi (IntOp.cmpi CmpIPredicate.sge w 0#32) (IntOp.cmpi CmpIPredicate.sle w 15#32) = 0#1 := by
  show BitVec.ofBool (BitVec.sle 0#32 w) &&& BitVec.ofBool (BitVec.sle w 15#32) = 0#1
  have key : BitVec.sle 0#32 w = false ∨ BitVec.sle w 15#32 = false := by
    rw [BitVec.sle, BitVec.sle, decide_eq_false_iff_not, decide_eq_false_iff_not]
    have h0 : (0#32 : BitVec 32).toInt = 0 := by decide
    have h15 : (15#32 : BitVec 32).toInt = 15 := by decide
    rw [h0, h15, BitVec.toInt_eq_toNat_cond]
    split <;> omega
  rcases key with k | k <;> rw [k]
  · cases BitVec.sle w 15#32 <;> rfl
  · cases BitVec.sle 0#32 w <;> rfl

set_option maxRecDepth 16384 in
/-- THE REFERENCE AT A TOKEN AND A COLUMN: the shared product, and for an index that names an expert the probability times that expert's
    product. -/
theorem ref_apply (m : (ℓ : Loc nD τ sig) → Buf (Elt Ideal) ℓ) (c : Dev nD) (X : FVec Ideal S2048x256 .f32) (R : FVec Ideal S256x16 .f32)
    (I : IVec S2048x1 32) (W : FVec Ideal S16x256x512 .f32) (S : FVec Ideal S256x512 .f32)
    (h0 : m ((c.tc : Thread nD τ).loc main_arg0) = X) (h1 : m ((c.tc : Thread nD τ).loc main_arg1) = R)
    (h2 : m ((c.tc : Thread nD τ).loc main_arg2) = I) (h3 : m ((c.tc : Thread nD τ).loc main_arg3) = W)
    (h4 : m ((c.tc : Thread nD τ).loc main_arg4) = S) (t : Fin 2048) (f : Fin 512) :
    (Value.res_main_v28 m c : FVec Ideal S2048x512 .f32) (ix2 t f)
      = ∑ k : Fin 256, X (ix2 t k) * S (ix2 k f)
        + if h : (I (ix2 t 0)).toNat < 16 then
            prob (fun k => X (ix2 t k)) (fun k e => R (ix2 k e)) ⟨(I (ix2 t 0)).toNat, h⟩
              * ∑ k : Fin 256, X (ix2 t k) * W (ix3 ⟨(I (ix2 t 0)).toNat, h⟩ k f)
          else 0 := by
  unfold Value.res_main_v28
  rw [h0, h1, h2, h3, h4]
  clean_types
  pointwise
  rw [gather_prob]
  simp only [gather_expert]
  pointwise
  simp only [fold_andi_one]
  congr 1
  split
  · rename_i h
    have hw := word_in h
    generalize (⟨(I (ix2 t 0)).toNat, h⟩ : Fin 16) = e at hw ⊢
    obtain ⟨r1, r2, r3⟩ := range_in e
    have hs : ∀ {α : Type} (a b : α), Scalar.select 0#1 a b = b := fun _ _ => rfl
    have hs1 : ∀ {α : Type} (a b : α), Scalar.select 1#1 a b = a := fun _ _ => rfl
    simp only [hw, r1, hs, r2, hs1]
    have r4 : ∀ hh, (⟨min (BitVec.ofNat 32 e.val).toInt.toNat 15, hh⟩ : Fin 16) = e := fun hh => Fin.ext r3
    simp only [r4]
    rfl
  · rename_i h
    rw [range_out h]
    have hs : ∀ {α : Type} (a b : α), Scalar.select 0#1 a b = b := fun _ _ => rfl
    simp only [hs, Finset.sum_const_zero, mul_zero]
    generalize IntOp.andi _ _ = b
    rcases BitVec.eq_zero_or_eq_one b with k | k <;> rw [k] <;> rfl

end Cert.RingProof

end
-- ==== Proof.Equation.lean ====
/-
# The kernel's block is the reference's

Each device stages the whole of its own arrays, so the accumulator is read off the device's part of the reference's arrays: its 512 tokens
are rows `512 c` and on of all tokens, and block `k` of device `d` is expert `4 d + k`. With the scores real, the sixteen gated products
are the one product of the reference.
-/
module

public import proofs.«01_k».proof.Defs
public import proofs.«01_k».proof.Proof.Launch
public import proofs.«01_k».proof.Proof.KernelValue
public import proofs.«01_k».proof.Proof.RefValue
public import Idealize.ShloMosaic.Lib.LayoutAt

@[expose] public section

noncomputable section

namespace Cert.RingProof

open Cert.KernelIdeal Cert.KernelIdeal.Gen
open Idealize.ShloMosaic Idealize.ShloMosaic.TcCoe

/-! ## What is staged is the device's own array -/

section Staged

variable (m : (ℓ : Loc nD τ sig) → Buf (Elt Ideal) ℓ) (c : Dev nD)

theorem xst_eq : xst m c = m ((c : Thread nD τ).loc main_arg0) := by
  funext j
  unfold xst
  refine congrArg (m ((c : Thread nD τ).loc main_arg0)) (funext fun a => Fin.ext ?_)
  match a with
  | ⟨0, _⟩ => show 0 + 1 * (j (⟨0, by decide⟩ : Fin 2)).val = (j (⟨0, by decide⟩ : Fin 2)).val; rw [Nat.one_mul, Nat.zero_add]
  | ⟨1, _⟩ => show 0 + 1 * (j (⟨1, by decide⟩ : Fin 2)).val = (j (⟨1, by decide⟩ : Fin 2)).val; rw [Nat.one_mul, Nat.zero_add]

theorem rwst_eq : rwst m c = m ((c : Thread nD τ).loc main_arg1) := by
  funext j
  unfold rwst
  refine congrArg (m ((c : Thread nD τ).loc main_arg1)) (funext fun a => Fin.ext ?_)
  match a with
  | ⟨0, _⟩ => show 0 + 1 * (j (⟨0, by decide⟩ : Fin 2)).val = (j (⟨0, by decide⟩ : Fin 2)).val; rw [Nat.one_mul, Nat.zero_add]
  | ⟨1, _⟩ => show 0 + 1 * (j (⟨1, by decide⟩ : Fin 2)).val = (j (⟨1, by decide⟩ : Fin 2)).val; rw [Nat.one_mul, Nat.zero_add]

theorem ixst_eq : ixst m c = m ((c : Thread nD τ).loc main_arg2) := by
  funext j
  unfold ixst
  refine congrArg (m ((c : Thread nD τ).loc main_arg2)) (funext fun a => Fin.ext ?_)
  match a with
  | ⟨0, _⟩ => show 0 + 1 * (j (⟨0, by decide⟩ : Fin 2)).val = (j (⟨0, by decide⟩ : Fin 2)).val; rw [Nat.one_mul, Nat.zero_add]
  | ⟨1, _⟩ => show 0 + 1 * (j (⟨1, by decide⟩ : Fin 2)).val = (j (⟨1, by decide⟩ : Fin 2)).val; rw [Nat.one_mul, Nat.zero_add]

theorem ewst_eq : ewst m c = m ((c : Thread nD τ).loc main_arg3) := by
  funext j
  unfold ewst
  refine congrArg (m ((c : Thread nD τ).loc main_arg3)) (funext fun a => Fin.ext ?_)
  match a with
  | ⟨0, _⟩ => show 0 + 1 * (j (⟨0, by decide⟩ : Fin 3)).val = (j (⟨0, by decide⟩ : Fin 3)).val; rw [Nat.one_mul, Nat.zero_add]
  | ⟨1, _⟩ => show 0 + 1 * (j (⟨1, by decide⟩ : Fin 3)).val = (j (⟨1, by decide⟩ : Fin 3)).val; rw [Nat.one_mul, Nat.zero_add]
  | ⟨2, _⟩ => show 0 + 1 * (j (⟨2, by decide⟩ : Fin 3)).val = (j (⟨2, by decide⟩ : Fin 3)).val; rw [Nat.one_mul, Nat.zero_add]

theorem swst_eq : swst m c = m ((c : Thread nD τ).loc main_arg4) := by
  funext j
  unfold swst
  refine congrArg (m ((c : Thread nD τ).loc main_arg4)) (funext fun a => Fin.ext ?_)
  match a with
  | ⟨0, _⟩ => show 0 + 1 * (j (⟨0, by decide⟩ : Fin 2)).val = (j (⟨0, by decide⟩ : Fin 2)).val; rw [Nat.one_mul, Nat.zero_add]
  | ⟨1, _⟩ => show 0 + 1 * (j (⟨1, by decide⟩ : Fin 2)).val = (j (⟨1, by decide⟩ : Fin 2)).val; rw [Nat.one_mul, Nat.zero_add]

/-- Block `k` as loaded is block `k` of the array. -/
theorem ewLd_apply (k : Fin 4) (r : Fin 256) (f : Fin 512) :
    ewLd m c k (ix3 0 r f) = (m ((c : Thread nD τ).loc main_arg3) : FVec Ideal S4x256x512 .f32) (ix3 k r f) := by
  unfold ewLd
  rw [ewst_eq]
  refine congrArg (m ((c : Thread nD τ).loc main_arg3)) (funext fun a => Fin.ext ?_)
  match a with
  | ⟨0, _⟩ => show k.val + 1 * 0 = k.val; rw [Nat.mul_zero, Nat.add_zero]
  | ⟨1, _⟩ => show 0 + 1 * r.val = r.val; rw [Nat.one_mul, Nat.zero_add]
  | ⟨2, _⟩ => show 0 + 1 * f.val = f.val; rw [Nat.one_mul, Nat.zero_add]

end Staged

/-! ## A device's part of an array -/

/-- Row `t` of device `c` is row `512 c + t` of the whole. -/
theorem block_tokens {α : Type} {n : ℕ} (c : Fin 4) (v : (⟨2, ![2048, n]⟩ : Shape).Idx → α) (h : Layout.Tiles ⟨2, ![512, n]⟩ ⟨2, ![2048, n]⟩ 0 4)
    (t : Fin 512) (k : Fin n) :
    Layout.block ⟨2, ![512, n]⟩ ⟨2, ![2048, n]⟩ 0 4 c v h (ix2 t k) = v (ix2 ⟨c.val * 512 + t.val, by omega⟩ k) := by
  refine congrArg v (funext fun b => Fin.ext ?_)
  rw [Layout.Tiles.idx_val]
  match b with
  | ⟨0, _⟩ => rfl
  | ⟨1, _⟩ => rfl

/-- Block `e` of device `c` is expert `4 c + e`. -/
theorem block_experts {α : Type} (c : Fin 4) (v : (⟨3, ![16, 256, 512]⟩ : Shape).Idx → α) (h : Layout.Tiles ⟨3, ![4, 256, 512]⟩ ⟨3, ![16, 256, 512]⟩ 0 4)
    (e : Fin 4) (k : Fin 256) (f : Fin 512) :
    Layout.block ⟨3, ![4, 256, 512]⟩ ⟨3, ![16, 256, 512]⟩ 0 4 c v h (ix3 e k f) = v (ix3 ⟨c.val * 4 + e.val, by omega⟩ k f) := by
  refine congrArg v (funext fun b => Fin.ext ?_)
  rw [Layout.Tiles.idx_val]
  match b with
  | ⟨0, _⟩ => rfl
  | ⟨1, _⟩ => rfl
  | ⟨2, _⟩ => rfl

/-! ## The scores are real -/

/-- A magnitude below infinity is a real number's. -/
theorem isReal_of_olt {a : EReal}
    (h : FloatOps.cmpf (F := Ideal) (φ := .f32) CmpFPredicate.olt (max a (-a)) (Ideal.ofBits .f32 0x7F800000#32) = 1#1) : IsReal a := by
  rw [ofBits_top] at h
  have h2 : max a (-a) < ⊤ := by
    by_contra hn
    have : FloatOps.cmpf (F := Ideal) (φ := .f32) CmpFPredicate.olt (max a (-a)) (⊤ : EReal) = 0#1 := by
      show BitVec.ofBool (decide (max a (-a) < (⊤ : EReal))) = 0#1
      rw [decide_eq_false hn]; rfl
    rw [this] at h
    exact absurd h (by decide)
  refine isReal_of_ne (fun hb => ?_) (fun hb => ?_)
  · rw [hb] at h2; simp at h2
  · rw [hb] at h2; simp at h2

/-- The precondition, element by element. -/
theorem pre_real [Cert.Pre_finite_scores_KernelIdeal.Facts] (m : (ℓ : Loc nD τ sig) → Buf (Elt Ideal) ℓ)
    (h : Cert.Pre_KernelIdeal_finite_scores_KernelIdeal m) (c : Dev nD) (X : FVec Ideal S512x256 .f32) (R : FVec Ideal S256x16 .f32)
    (h0 : m ((c.tc : Thread nD τ).loc main_arg0) = X) (h1 : m ((c.tc : Thread nD τ).loc main_arg1) = R) :
    (∀ t k, IsReal (X (ix2 t k))) ∧ ∀ k e, IsReal (R (ix2 k e)) := by
  obtain ⟨hx, hr⟩ := h c
  rw [h0, h1] at hx hr
  refine ⟨fun t k => isReal_of_olt ?_, fun k e => isReal_of_olt ?_⟩
  · have := congrFun hx (ix2 t k)
    rw [← this]
    pointwise [Cert.Pre_finite_scores_KernelIdeal.fn]
    rfl
  · have := congrFun hr (ix2 k e)
    rw [← this]
    pointwise [Cert.Pre_finite_scores_KernelIdeal.fn]
    rfl

/-! ## The equation -/

/-- THE VALUE: with real tokens and router weights, what the body leaves on device `c` is block `c` of the reference's result. -/
theorem out_eq (m : (ℓ : Loc nD τ sig) → Buf (Elt Ideal) ℓ)
    (m' : (ℓ : Loc Cert.ReferenceIdeal.nD Cert.ReferenceIdeal.τ Cert.ReferenceIdeal.sig) → Buf (Elt Ideal) ℓ)
    (X : FVec Ideal ⟨2, ![2048, 256]⟩ .f32) (R : FVec Ideal ⟨2, ![256, 16]⟩ .f32) (I : IVec ⟨2, ![2048, 1]⟩ 32)
    (W : FVec Ideal ⟨3, ![16, 256, 512]⟩ .f32) (S : FVec Ideal ⟨2, ![256, 512]⟩ .f32)
    (r0 : m' (((0 : Dev Cert.ReferenceIdeal.nD).tc : Thread Cert.ReferenceIdeal.nD Cert.ReferenceIdeal.τ).loc Cert.ReferenceIdeal.main_arg0) = X)
    (r1 : m' (((0 : Dev Cert.ReferenceIdeal.nD).tc : Thread Cert.ReferenceIdeal.nD Cert.ReferenceIdeal.τ).loc Cert.ReferenceIdeal.main_arg1) = R)
    (r2 : m' (((0 : Dev Cert.ReferenceIdeal.nD).tc : Thread Cert.ReferenceIdeal.nD Cert.ReferenceIdeal.τ).loc Cert.ReferenceIdeal.main_arg2) = I)
    (r3 : m' (((0 : Dev Cert.ReferenceIdeal.nD).tc : Thread Cert.ReferenceIdeal.nD Cert.ReferenceIdeal.τ).loc Cert.ReferenceIdeal.main_arg3) = W)
    (r4 : m' (((0 : Dev Cert.ReferenceIdeal.nD).tc : Thread Cert.ReferenceIdeal.nD Cert.ReferenceIdeal.τ).loc Cert.ReferenceIdeal.main_arg4) = S)
    (k0 : ∀ c : Dev nD, m ((c.tc : Thread nD τ).loc main_arg0) = Layout.block ⟨2, ![512, 256]⟩ ⟨2, ![2048, 256]⟩ 0 4 c X)
    (k1 : ∀ c : Dev nD, m ((c.tc : Thread nD τ).loc main_arg1) = R)
    (k2 : ∀ c : Dev nD, m ((c.tc : Thread nD τ).loc main_arg2) = Layout.block ⟨2, ![512, 1]⟩ ⟨2, ![2048, 1]⟩ 0 4 c I)
    (k3 : ∀ c : Dev nD, m ((c.tc : Thread nD τ).loc main_arg3) = Layout.block ⟨3, ![4, 256, 512]⟩ ⟨3, ![16, 256, 512]⟩ 0 4 c W)
    (k4 : ∀ c : Dev nD, m ((c.tc : Thread nD τ).loc main_arg4) = S)
    [Cert.Pre_finite_scores_KernelIdeal.Facts] (h : Cert.Pre_KernelIdeal_finite_scores_KernelIdeal m) (c : Dev nD) :
    outAt m c = Layout.block ⟨2, ![512, 512]⟩ ⟨2, ![2048, 512]⟩ 0 4 c (Cert.ReferenceIdeal.Value.res_main_v28 m' 0) := by
  obtain ⟨hx, hr⟩ := pre_real m h c _ R (k0 c) (k1 c)
  funext j
  obtain ⟨t, f, rfl⟩ : ∃ (t f : Fin 512), j = ix2 t f := ⟨j 0, j 1, eq_ix2 j⟩
  rw [block_tokens (n := 512) c _ _ t f, Cert.RingProof.ref_apply m' 0 X R I W S r0 r1 r2 r3 r4]
  unfold outAt
  rw [b11_apply m c _ _ _ _ t f (fun e k => W (ix3 e k f)) fun d k r => ?_]
  · rw [xst_eq, rwst_eq, ixst_eq, swst_eq]
    rw [k0 c, k1 c, k2 c, k4 c]
    rw [sum_part (hx t) hr]
    simp only [block_tokens]
  · rw [ewLd_apply, k3 d]
    show Layout.block _ _ 0 4 d W _ (ix3 k r f) = _
    rw [block_experts]
    congr 2
    exact Fin.ext (Nat.add_right_cancel_iff.2 (Nat.mul_comm _ _))

end Cert.RingProof

end
-- ==== Proof.lean ====
/-
# The claims, assembled

The run of the ring (`Launch`) gives the frames of both readings of the kernel (`Same`) and, over the extended reals, the value its result
array ends with; `Equation` says that value is the device's block of the reference's result.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Launch
public import proofs.«01_k».proof.Proof.Same
public import proofs.«01_k».proof.Proof.Equation
public import Idealize.ShloMosaic.Adequacy
public import Idealize.ShloMosaic.Init

@[expose] public section

noncomputable section

namespace Cert.Proof

open Idealize.ShloMosaic Idealize.SL.Sem

/-- The kernel over the extended reals: every run on the four devices ends with the arguments unchanged and every counter at zero. -/
theorem frame_kernel_ideal : Cert.quiescent_KernelIdeal := fun m ρ _ => Cert.RingProof.quiet (F := Ideal) m ρ

/-- The reference's own frame. -/
theorem frame_reference : Cert.quiescent_ReferenceIdeal := fun m ρ _ => (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The side conditions the precondition states, for a device's blocks, -/
theorem facts_pre : Cert.Pre_finite_scores_KernelIdeal.Facts := ⟨by decide, by decide⟩

/-- and for the reference's arrays. -/
theorem facts_pre_reference : Cert.Pre_finite_scores_ReferenceIdeal.Facts := ⟨by decide, by decide⟩

/-- The kernel's four result blocks are the blocks of the reference's result, where the tokens and the router's weights are finite. -/
theorem algebraic [Cert.Pre_finite_scores_KernelIdeal.Facts] :
    Cert.algebraic_KernelIdeal_ReferenceIdeal_pre_finite_scores_KernelIdeal := fun m ρ m' ρ' hp hm =>
  ⟨Cert.ReferenceIdeal.Value.res_main_v28 m' 0,
    (θ_run Cert.KernelIdeal.defs _ _).mono (fun _ h c =>
      ⟨((h.1 c (5 : Fin 6)).trans (Cert.RingProof.final_5 m ρ c)).trans
          (Cert.RingProof.out_eq m m' _ _ _ _ _ rfl rfl rfl rfl rfl (fun d => (hm d).1) (fun d => (hm d).2.1) (fun d => (hm d).2.2.1)
            (fun d => (hm d).2.2.2.1) (fun d => (hm d).2.2.2.2) hp c),
        (h.1 c (0 : Fin 6)).trans (Cert.RingProof.final_0 m ρ c), (h.1 c (1 : Fin 6)).trans (Cert.RingProof.final_1 m ρ c),
        (h.1 c (2 : Fin 6)).trans (Cert.RingProof.final_2 m ρ c), (h.1 c (3 : Fin 6)).trans (Cert.RingProof.final_3 m ρ c),
        (h.1 c (4 : Fin 6)).trans (Cert.RingProof.final_4 m ρ c)⟩) (Cert.RingProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, facts_pre, facts_pre_reference,
    Cert.RingProof.frame_kernel, frame_kernel_ideal, fun m ρ _ => Cert.RingProof.quiet (F := Ideal) m ρ,
    frame_reference, fun m ρ _ => frame_reference m ρ trivial, trivial, @algebraic facts_pre⟩

end Cert.Proof

end
